-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonnegative [hPre_scales_nonnegative : Cert.Pre_scales_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonnegative [hPre_scales_nonnegative : Cert.Pre_scales_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_nonnegative [hKernelIdeal : Cert.KernelIdeal.Facts] [hPre_scales_nonnegative : Cert.Pre_scales_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_nonnegative [hReferenceIdeal : Cert.ReferenceIdeal.Facts] [hPre_scales_nonnegative : Cert.Pre_scales_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "masked" .f32 0xF149F2CA#32 ⊥
  ∧ IdealRules.named_const.Statement Cert.KernelIdeal.κ "c_log2" .f32 0x3E16C740#32 (((Real.sqrt 96)⁻¹ * (Real.log 2)⁻¹ : ℝ) : EReal)
  ∧ IdealRules.named_const.Statement Cert.KernelIdeal.κ "score_scale" .f32 0x3DD105EC#32 (((Real.sqrt 96)⁻¹ : ℝ) : EReal)

def algebraic_KernelIdeal_ReferenceIdeal_pre_scales_nonnegative [hKernelIdeal : Cert.KernelIdeal.Facts] [hReferenceIdeal : Cert.ReferenceIdeal.Facts] [hPre_scales_nonnegative : Cert.Pre_scales_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scales_nonnegative : Cert.Pre_scales_nonnegative.Facts),
    quiescent_Kernel (hKernel := hKernel)
    ∧ quiescent_KernelIdeal (hKernelIdeal := hKernelIdeal)
    ∧ quiescent_KernelIdeal_pre_scales_nonnegative (hKernelIdeal := hKernelIdeal) (hPre_scales_nonnegative := hPre_scales_nonnegative)
    ∧ quiescent_ReferenceIdeal (hReferenceIdeal := hReferenceIdeal)
    ∧ quiescent_ReferenceIdeal_pre_scales_nonnegative (hReferenceIdeal := hReferenceIdeal) (hPre_scales_nonnegative := hPre_scales_nonnegative)
    ∧ preserves_Kernel_KernelIdeal
    ∧ algebraic_KernelIdeal_ReferenceIdeal_pre_scales_nonnegative (hKernelIdeal := hKernelIdeal) (hReferenceIdeal := hReferenceIdeal) (hPre_scales_nonnegative := hPre_scales_nonnegative)
-- ==== Pre_scales_nonnegative.lean ====
abbrev S52x10x3072 : Shape := ⟨3, ![52, 10, 3072]⟩
abbrev S4500x8x96 : Shape := ⟨3, ![4500, 8, 96]⟩
abbrev S4500x8 : Shape := ⟨2, ![4500, 8]⟩
abbrev S_ : Shape := ⟨0, ![]⟩

class Facts : Prop where
  bcast_S_S4500x8 : S_.BroadcastsInDim S4500x8 (![] : Fin 0 → Fin S4500x8.rank)
  reducesTo_S4500x8_S_d0_1 : S4500x8.ReducesTo [0, 1] S_
  h_S_ : 0 < S_.numel

variable [Facts]

def fn {F : FTy → Type} [FloatOps F] (main_arg0 : FVec F S52x10x3072 .bf16) (main_arg1 : FVec F S4500x8x96 .fp8e4m3) (main_arg2 : FVec F S4500x8x96 .fp8e4m3) (main_arg3 : FVec F S4500x8 .f32) (main_arg4 : FVec F S4500x8 .f32) : IVec S_ 1 :=
  let main_cst : FVec F S_ .f32 := constant S_ .f32 0x00000000#32
  let main_v0 : FVec F S4500x8 .f32 := broadcastInDim S4500x8 ![] bcast_S_S4500x8 main_cst
  let main_v1 : IVec S4500x8 1 := cmpf .oge main_arg3 main_v0
  let main_cst_0 : FVec F S_ .f32 := constant S_ .f32 0x7F800000#32
  let main_v2 : FVec F S4500x8 .f32 := broadcastInDim S4500x8 ![] bcast_S_S4500x8 main_cst_0
  let main_v3 : IVec S4500x8 1 := cmpf .olt main_arg3 main_v2
  let main_v4 : IVec S4500x8 1 := andi main_v1 main_v3
  let main_c : IVec S_ 1 := constantI S_ 1 1#1
  let main_v5 : IVec S_ 1 := (fun x v => Host.reduce IntOp.andi x v reducesTo_S4500x8_S_d0_1 h_S_) main_v4 main_c
  main_v5
-- ==== Kernel.lean ====
abbrev S52x10x3072 : Shape := ⟨3, ![52, 10, 3072]⟩
abbrev S4500x8x96 : Shape := ⟨3, ![4500, 8, 96]⟩
abbrev S4500x8 : Shape := ⟨2, ![4500, 8]⟩
abbrev S52x10x8x4x96 : Shape := ⟨5, ![52, 10, 8, 4, 96]⟩
abbrev S8x96x52x10x4 : Shape := ⟨5, ![8, 96, 52, 10, 4]⟩
abbrev S8x96x2080 : Shape := ⟨3, ![8, 96, 2080]⟩
abbrev S_ : Shape := ⟨0, ![]⟩
abbrev S8x96x2304 : Shape := ⟨3, ![8, 96, 2304]⟩
abbrev S8x1x2304 : Shape := ⟨3, ![8, 1, 2304]⟩
abbrev S8x31x2304 : Shape := ⟨3, ![8, 31, 2304]⟩
abbrev S8x128x2304 : Shape := ⟨3, ![8, 128, 2304]⟩
abbrev S8x96x4500 : Shape := ⟨3, ![8, 96, 4500]⟩
abbrev S8x4500 : Shape := ⟨2, ![8, 4500]⟩
abbrev S8x1x4500 : Shape := ⟨3, ![8, 1, 4500]⟩
abbrev S8x2304x128 : Shape := ⟨3, ![8, 2304, 128]⟩
abbrev S1x128x2304 : Shape := ⟨3, ![1, 128, 2304]⟩
abbrev S1x96x4608 : Shape := ⟨3, ![1, 96, 4608]⟩
abbrev S1x1x4608 : Shape := ⟨3, ![1, 1, 4608]⟩
abbrev S1x2304x128 : Shape := ⟨3, ![1, 2304, 128]⟩
abbrev S4608x128 : Shape := ⟨2, ![4608, 128]⟩
abbrev S96x4608 : Shape := ⟨2, ![96, 4608]⟩
abbrev S4608x256 : Shape := ⟨2, ![4608, 256]⟩
abbrev S8x256 : Shape := ⟨2, ![8, 256]⟩
abbrev S1x96x256 : Shape := ⟨3, ![1, 96, 256]⟩
abbrev S96x256 : Shape := ⟨2, ![96, 256]⟩
abbrev S1x1x256 : Shape := ⟨3, ![1, 1, 256]⟩
abbrev S1x256 : Shape := ⟨2, ![1, 256]⟩
abbrev S32x256 : Shape := ⟨2, ![32, 256]⟩
abbrev S128x256 : Shape := ⟨2, ![128, 256]⟩
abbrev S256x128 : Shape := ⟨2, ![256, 128]⟩
abbrev S1x128x256 : Shape := ⟨3, ![1, 128, 256]⟩
abbrev S256x256 : Shape := ⟨2, ![256, 256]⟩
abbrev S32x8x256 : Shape := ⟨3, ![32, 8, 256]⟩
abbrev S256 : Shape := ⟨1, ![256]⟩
abbrev S1x256x128 : Shape := ⟨3, ![1, 256, 128]⟩

abbrev nBuf : Space → Nat
  | .hbm => 23
  | .vmem => 18
  | .smem => 0
  | _ => 0

abbrev bufTy : (tb : Table) → Fin (tcTables nBuf tb) → BufTy
  | .hbm, ⟨0, _⟩ => ⟨S52x10x3072, .bf16⟩
  | .hbm, ⟨1, _⟩ => ⟨S4500x8x96, .fp8e4m3⟩
  | .hbm, ⟨2, _⟩ => ⟨S4500x8x96, .fp8e4m3⟩
  | .hbm, ⟨3, _⟩ => ⟨S4500x8, .f32⟩
  | .hbm, ⟨4, _⟩ => ⟨S4500x8, .f32⟩
  | .hbm, ⟨5, _⟩ => ⟨S52x10x8x4x96, .bf16⟩
  | .hbm, ⟨6, _⟩ => ⟨S8x96x52x10x4, .bf16⟩
  | .hbm, ⟨7, _⟩ => ⟨S8x96x2080, .bf16⟩
  | .hbm, ⟨8, _⟩ => ⟨S_, .i32⟩
  | .hbm, ⟨9, _⟩ => ⟨S_, .bf16⟩
  | .hbm, ⟨10, _⟩ => ⟨S8x96x2304, .bf16⟩
  | .hbm, ⟨11, _⟩ => ⟨S_, .bf16⟩
  | .hbm, ⟨12, _⟩ => ⟨S8x1x2304, .bf16⟩
  | .hbm, ⟨13, _⟩ => ⟨S_, .bf16⟩
  | .hbm, ⟨14, _⟩ => ⟨S8x31x2304, .bf16⟩
  | .hbm, ⟨15, _⟩ => ⟨S8x128x2304, .bf16⟩
  | .hbm, ⟨16, _⟩ => ⟨S8x96x4500, .fp8e4m3⟩
  | .hbm, ⟨17, _⟩ => ⟨S8x96x4500, .fp8e4m3⟩
  | .hbm, ⟨18, _⟩ => ⟨S8x4500, .f32⟩
  | .hbm, ⟨19, _⟩ => ⟨S8x1x4500, .f32⟩
  | .hbm, ⟨20, _⟩ => ⟨S8x4500, .f32⟩
  | .hbm, ⟨21, _⟩ => ⟨S8x1x4500, .f32⟩
  | .hbm, ⟨22, _⟩ => ⟨S8x2304x128, .f32⟩
  | .local _ .vmem, ⟨0, _⟩ => ⟨S1x128x2304, .bf16⟩
  | .local _ .vmem, ⟨1, _⟩ => ⟨S1x128x2304, .bf16⟩
  | .local _ .vmem, ⟨2, _⟩ => ⟨S1x96x4608, .fp8e4m3⟩
  | .local _ .vmem, ⟨3, _⟩ => ⟨S1x96x4608, .fp8e4m3⟩
  | .local _ .vmem, ⟨4, _⟩ => ⟨S1x96x4608, .fp8e4m3⟩
  | .local _ .vmem, ⟨5, _⟩ => ⟨S1x96x4608, .fp8e4m3⟩
  | .local _ .vmem, ⟨6, _⟩ => ⟨S1x1x4608, .f32⟩
  | .local _ .vmem, ⟨7, _⟩ => ⟨S1x1x4608, .f32⟩
  | .local _ .vmem, ⟨8, _⟩ => ⟨S1x1x4608, .f32⟩
  | .local _ .vmem, ⟨9, _⟩ => ⟨S1x1x4608, .f32⟩
  | .local _ .vmem, ⟨10, _⟩ => ⟨S1x2304x128, .f32⟩
  | .local _ .vmem, ⟨11, _⟩ => ⟨S1x2304x128, .f32⟩
  | .local _ .vmem, ⟨12, _⟩ => ⟨S4608x128, .bf16⟩
  | .local _ .vmem, ⟨13, _⟩ => ⟨S96x4608, .bf16⟩
  | .local _ .vmem, ⟨14, _⟩ => ⟨S4608x256, .f32⟩
  | .local _ .vmem, ⟨15, _⟩ => ⟨S4608x256, .f32⟩
  | .local _ .vmem, ⟨16, _⟩ => ⟨S8x256, .f32⟩
  | .local _ .vmem, ⟨17, _⟩ => ⟨S8x256, .f32⟩
  | _, _ => ⟨S52x10x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  c0_i32
@[reducible] def k0_t1_loop : Scf.Loop 32 :=
  let c0_i32_404 : BitVec 32 := 0#32
  let c8_i32 : BitVec 32 := 8#32
  let v621 : BitVec 32 := Scalar.addi c0_i32_404 c8_i32
  let c1_i32 : BitVec 32 := 1#32
  ⟨c0_i32_404, v621, c1_i32⟩
def k0_cond1 (k0_t1 : Fin k0_t1_loop.trips) : BitVec 1 :=
  let c0_i32_404 : BitVec 32 := 0#32
  let c1_i32 : BitVec 32 := 1#32
  let arg13 : BitVec 32 := Scf.iv c0_i32_404 c1_i32 k0_t1
  let c2_i32 : BitVec 32 := 2#32
  let v886 : BitVec 32 := Scalar.remsi arg13 c2_i32
  let c0_i32_543 : BitVec 32 := 0#32
  let v887 : BitVec 1 := Scalar.cmpi .eq v886 c0_i32_543
  let v888 : BitVec 32 := Scalar.extui v887
  let c0_i32_544 : BitVec 32 := 0#32
  let v889 : BitVec 1 := Scalar.cmpi .ne v888 c0_i32_544
  v889

def k0_mult2 (k0_t1 : Fin k0_t1_loop.trips) : BitVec 32 :=
  let c0_i32_404 : BitVec 32 := 0#32
  let c1_i32 : BitVec 32 := 1#32
  let arg13 : BitVec 32 := Scf.iv c0_i32_404 c1_i32 k0_t1
  let c1_i32_546 : BitVec 32 := 1#32
  let v893 : BitVec 32 := Scalar.addi arg13 c1_i32_546
  let c256_i32 : BitVec 32 := 256#32
  let v894 : BitVec 32 := Scalar.muli v893 c256_i32
  v894
def k0_off1 (k0_t1 : Fin k0_t1_loop.trips) : Fin 3 → Nat :=
  let c0_547 : Index := 0#32
  let c0_548 : Index := 0#32
  let c0_i32_404 : BitVec 32 := 0#32
  let c1_i32 : BitVec 32 := 1#32
  let arg13 : BitVec 32 := Scf.iv c0_i32_404 c1_i32 k0_t1
  let c1_i32_546 : BitVec 32 := 1#32
  let v893 : BitVec 32 := Scalar.addi arg13 c1_i32_546
  let c256_i32 : BitVec 32 := 256#32
  let v894 : BitVec 32 := Scalar.muli v893 c256_i32
  let v895 : BitVec 32 := v894
  let v896 : Index := Scalar.indexCast v895
  ![0, 0, v896.toNat]
def k0_mult3 (k0_t1 : Fin k0_t1_loop.trips) : BitVec 32 :=
  let c0_i32_404 : BitVec 32 := 0#32
  let c1_i32 : BitVec 32 := 1#32
  let arg13 : BitVec 32 := Scf.iv c0_i32_404 c1_i32 k0_t1
  let c256_i32_797 : BitVec 32 := 256#32
  let v1310 : BitVec 32 := Scalar.muli arg13 c256_i32_797
  v1310
def k0_off2 (k0_t1 : Fin k0_t1_loop.trips) : Fin 3 → Nat :=
  let c0_798 : Index := 0#32
  let c0_i32_404 : BitVec 32 := 0#32
  let c1_i32 : BitVec 32 := 1#32
  let arg13 : BitVec 32 := Scf.iv c0_i32_404 c1_i32 k0_t1
  let c256_i32_797 : BitVec 32 := 256#32
  let v1310 : BitVec 32 := Scalar.muli arg13 c256_i32_797
  let v1311 : BitVec 32 := v1310
  let v1312 : Index := Scalar.indexCast v1311
  let c0_799 : Index := 0#32
  ![0, v1312.toNat, 0]
def k0_cond2 (k0_t1 : Fin k0_t1_loop.trips) : BitVec 1 :=
  let c0_i32_404 : BitVec 32 := 0#32
  let c1_i32 : BitVec 32 := 1#32
  let arg13 : BitVec 32 := Scf.iv c0_i32_404 c1_i32 k0_t1
  let c2_i32 : BitVec 32 := 2#32
  let v886 : BitVec 32 := Scalar.remsi arg13 c2_i32
  let c0_i32_543 : BitVec 32 := 0#32
  let v887 : BitVec 1 := Scalar.cmpi .eq v886 c0_i32_543
  let v_true : BitVec 1 := 1#1
  let v890 : BitVec 1 := Scalar.xori v887 v_true
  let v891 : BitVec 32 := Scalar.extui v890
  let c0_i32_545 : BitVec 32 := 0#32
  let v892 : BitVec 1 := Scalar.cmpi .ne v891 c0_i32_545
  v892

def k0_mult4 (k0_t1 : Fin k0_t1_loop.trips) : BitVec 32 :=
  let c0_i32_404 : BitVec 32 := 0#32
  let c1_i32 : BitVec 32 := 1#32
  let arg13 : BitVec 32 := Scf.iv c0_i32_404 c1_i32 k0_t1
  let c1_i32_546 : BitVec 32 := 1#32
  let v893 : BitVec 32 := Scalar.addi arg13 c1_i32_546
  let c256_i32 : BitVec 32 := 256#32
  let v894 : BitVec 32 := Scalar.muli v893 c256_i32
  v894
def k0_off3 (k0_t1 : Fin k0_t1_loop.trips) : Fin 3 → Nat :=
  let c0_547 : Index := 0#32
  let c0_548 : Index := 0#32
  let c0_i32_404 : BitVec 32 := 0#32
  let c1_i32 : BitVec 32 := 1#32
  let arg13 : BitVec 32 := Scf.iv c0_i32_404 c1_i32 k0_t1
  let c1_i32_546 : BitVec 32 := 1#32
  let v893 : BitVec 32 := Scalar.addi arg13 c1_i32_546
  let c256_i32 : BitVec 32 := 256#32
  let v894 : BitVec 32 := Scalar.muli v893 c256_i32
  let v895 : BitVec 32 := v894
  let v896 : Index := Scalar.indexCast v895
  ![0, 0, v896.toNat]
def k0_mult5 (k0_t1 : Fin k0_t1_loop.trips) : BitVec 32 :=
  let c0_i32_404 : BitVec 32 := 0#32
  let c1_i32 : BitVec 32 := 1#32
  let arg13 : BitVec 32 := Scf.iv c0_i32_404 c1_i32 k0_t1
  let c256_i32_797 : BitVec 32 := 256#32
  let v1310 : BitVec 32 := Scalar.muli arg13 c256_i32_797
  v1310
def k0_off4 (k0_t1 : Fin k0_t1_loop.trips) : Fin 3 → Nat :=
  let c0_798 : Index := 0#32
  let c0_i32_404 : BitVec 32 := 0#32
  let c1_i32 : BitVec 32 := 1#32
  let arg13 : BitVec 32 := Scf.iv c0_i32_404 c1_i32 k0_t1
  let c256_i32_797 : BitVec 32 := 256#32
  let v1310 : BitVec 32 := Scalar.muli arg13 c256_i32_797
  let v1311 : BitVec 32 := v1310
  let v1312 : Index := Scalar.indexCast v1311
  let c0_799 : Index := 0#32
  ![0, v1312.toNat, 0]
def k0_mult6 : BitVec 32 :=
  let c2048_i32 : BitVec 32 := 2048#32
  c2048_i32
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x96x4608 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x96x4608 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4608 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "c_log2" => some (((Real.sqrt 96)⁻¹ * (Real.log 2)⁻¹ : ℝ) : EReal)
  | "masked" => some ⊥
  | "score_scale" => some (((Real.sqrt 96)⁻¹ : ℝ) : EReal)
  | _ => none
-- ==== ReferenceIdeal.lean ====
abbrev S52x10x3072 : Shape := ⟨3, ![52, 10, 3072]⟩
abbrev S4500x8x96 : Shape := ⟨3, ![4500, 8, 96]⟩
abbrev S4500x8 : Shape := ⟨2, ![4500, 8]⟩
abbrev S52x10x8x4x96 : Shape := ⟨5, ![52, 10, 8, 4, 96]⟩
abbrev S8x52x10x4x96 : Shape := ⟨5, ![8, 52, 10, 4, 96]⟩
abbrev S8x2080x96 : Shape := ⟨3, ![8, 2080, 96]⟩
abbrev S_ : Shape := ⟨0, ![]⟩
abbrev S8x2304x96 : Shape := ⟨3, ![8, 2304, 96]⟩
abbrev S8x4500x96 : Shape := ⟨3, ![8, 4500, 96]⟩
abbrev S8x4500 : Shape := ⟨2, ![8, 4500]⟩
abbrev S8x1x4500 : Shape := ⟨3, ![8, 1, 4500]⟩
abbrev S8x2304x128 : Shape := ⟨3, ![8, 2304, 128]⟩
abbrev S8x2304x4500 : Shape := ⟨3, ![8, 2304, 4500]⟩
abbrev S8x2304 : Shape := ⟨2, ![8, 2304]⟩
abbrev S8x2304x1 : Shape := ⟨3, ![8, 2304, 1]⟩
abbrev S8x2304x32 : Shape := ⟨3, ![8, 2304, 32]⟩

abbrev nBuf : Space → Nat
  | .hbm => 18
  | .vmem => 6
  | .smem => 0
  | _ => 0

abbrev bufTy : (tb : Table) → Fin (tcTables nBuf tb) → BufTy
  | .hbm, ⟨0, _⟩ => ⟨S52x10x3072, .bf16⟩
  | .hbm, ⟨1, _⟩ => ⟨S4500x8x96, .fp8e4m3⟩
  | .hbm, ⟨2, _⟩ => ⟨S4500x8x96, .fp8e4m3⟩
  | .hbm, ⟨3, _⟩ => ⟨S4500x8, .f32⟩
  | .hbm, ⟨4, _⟩ => ⟨S4500x8, .f32⟩
  | .hbm, ⟨5, _⟩ => ⟨S52x10x8x4x96, .bf16⟩
  | .hbm, ⟨6, _⟩ => ⟨S8x52x10x4x96, .bf16⟩
  | .hbm, ⟨7, _⟩ => ⟨S8x2080x96, .bf16⟩
  | .hbm, ⟨8, _⟩ => ⟨S_, .i32⟩
  | .hbm, ⟨9, _⟩ => ⟨S_, .bf16⟩
  | .hbm, ⟨10, _⟩ => ⟨S8x2304x96, .bf16⟩
  | .hbm, ⟨11, _⟩ => ⟨S8x4500x96, .fp8e4m3⟩
  | .hbm, ⟨12, _⟩ => ⟨S8x4500x96, .fp8e4m3⟩
  | .hbm, ⟨13, _⟩ => ⟨S8x4500, .f32⟩
  | .hbm, ⟨14, _⟩ => ⟨S8x1x4500, .f32⟩
  | .hbm, ⟨15, _⟩ => ⟨S8x4500, .f32⟩
  | .hbm, ⟨16, _⟩ => ⟨S8x1x4500, .f32⟩
  | .hbm, ⟨17, _⟩ => ⟨S8x2304x128, .f32⟩
  | .local _ .vmem, ⟨0, _⟩ => ⟨S8x2304x96, .bf16⟩
  | .local _ .vmem, ⟨1, _⟩ => ⟨S8x4500x96, .fp8e4m3⟩
  | .local _ .vmem, ⟨2, _⟩ => ⟨S8x4500x96, .fp8e4m3⟩
  | .local _ .vmem, ⟨3, _⟩ => ⟨S8x1x4500, .f32⟩
  | .local _ .vmem, ⟨4, _⟩ => ⟨S8x1x4500, .f32⟩
  | .local _ .vmem, ⟨5, _⟩ => ⟨S8x2304x128, .f32⟩
  | _, _ => ⟨S52x10x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "score_scale" => some (((Real.sqrt 96)⁻¹ : ℝ) : EReal)
  | _ => none

abbrev grid0 : Pipeline.Grid := .none

abbrev stage0_0 : Fin 1 → Memref sig .tc .vmem S8x2304x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4500x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4500x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x4500 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x4500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2304x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Prefix.Trip.lean ====
/- One trip of the loop over the query tiles: what it writes, as folds over the key tiles. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg1 : Memref sig .tc .vmem S1x128x2304 .bf16) (harg1 : arg1.IsWhole)
  (arg2 : Memref sig .tc .vmem S1x96x4608 .fp8e4m3) (harg2 : arg2.IsWhole)
  (arg3 : Memref sig .tc .vmem S1x96x4608 .fp8e4m3) (harg3 : arg3.IsWhole)
  (arg4 : Memref sig .tc .vmem S1x1x4608 .f32) (harg4 : arg4.IsWhole)
  (arg5 : Memref sig .tc .vmem S1x1x4608 .f32) (harg5 : arg5.IsWhole)
  (arg6 : Memref sig .tc .vmem S1x2304x128 .f32) (harg6 : arg6.IsWhole)
  (arg7 : Memref sig .tc .vmem S4608x128 .bf16) (harg7 : arg7.IsWhole)
  (arg8 : Memref sig .tc .vmem S96x4608 .bf16) (harg8 : arg8.IsWhole)
  (arg9 : Memref sig .tc .vmem S4608x256 .f32) (harg9 : arg9.IsWhole)
  (arg10 : Memref sig .tc .vmem S4608x256 .f32) (harg10 : arg10.IsWhole)
  (arg11 : Memref sig .tc .vmem S8x256 .f32) (harg11 : arg11.IsWhole)
  (arg12 : Memref sig .tc .vmem S8x256 .f32) (harg12 : arg12.IsWhole)
  (arg0 : BitVec 32) (v468 : FVec F S128x256 .bf16) (v605 : FVec F S8x256 .f32) (v606 : Vec F S256x128 .bf16) (cst_397 : FVec F S256x256 .f32)

/-- The elements of one buffer, whole, at the given contents. -/
abbrev holds {s : Shape} {e : EltTy} (m : Memref sig .tc .vmem s e) (f : Buf (Elt F) (m.view.loc (c : Thread nD τ))) : sProp 𝕄 :=
  m.view.loc (c : Thread nD τ) ↦[m.view.set]{fullShare} f

/-- A key tile lies within a score buffer. -/
theorem inbA (t : Fin 18) : ∀ a, (![256 * t.val, 0] : Fin 2 → ℕ) a + S256x256.size a ≤ S4608x256.size a := by
  intro a; have := t.isLt; fin_cases a <;> simp [Shape.size] <;> omega

/-- A key tile lies within the key buffer. -/
theorem inbK (t : Fin 18) : ∀ a, (![256 * t.val, 0] : Fin 2 → ℕ) a + S256x128.size a ≤ S4608x128.size a := by
  intro a; have := t.isLt; fin_cases a <;> simp [Shape.size] <;> omega

/-- A key tile lies within the value buffer. -/
theorem inbV (t : Fin 18) : ∀ a, (![0, 256 * t.val] : Fin 2 → ℕ) a + S96x256.size a ≤ S96x4608.size a := by
  intro a; have := t.isLt; fin_cases a <;> simp [Shape.size] <;> omega

variable (Q : Vec F S1x128x256 .bf16) (K : Fin 18 → Vec F S256x128 .bf16) (V : Fin 18 → Vec F S96x256 .bf16) (A : Fin 18 → Vec F S256x256 .f32)

/-- The key tiles in the order the kernel takes them. -/
abbrev tiles : List (Fin 18) := [0, 1, 2, 3, 4, 5, 6, 7, 8, 9, 10, 11, 12, 13, 14, 15, 16, 17]

/-- The scores of one key tile against one tile of queries. -/
def scoreT (q : Vec F S1x128x256 .bf16) (w : Vec F S256x128 .bf16) : FVec F S256x256 .f32 :=
  matmul dot_S256x128_S128x256_S256x256_1_0_0_1_n_n none w (shapeCast S128x256 q shapeCasts_S1x128x256_S128x256 : FVec F S128x256 .bf16) (constant S256x256 .f32 0x00000000#32)

/-- The running maximum after one more score tile, kept apart for eight residues of the key. -/
def maxT (mx : FVec F S8x256 .f32) (s : FVec F S256x256 .f32) : FVec F S8x256 .f32 :=
  maximumf mx (multiReduction .maximumf [0] S8x256 (shapeCast S32x8x256 s shapeCasts_S256x256_S32x8x256 : FVec F S32x8x256 .f32) 0xFF800000#32 reduces_S32x8x256_S8x256 (.inl rfl) rfl)

/-- The maximum over all tiles, one row for each residue. -/
def maxAll : FVec F S8x256 .f32 :=
  tiles.foldl (fun mx t => maxT mx (scoreT Q (K t))) (broadcast S8x256 (Named.named κ "masked" 0xF149F2CA#32))

/-- The maximum over the residues too, in every row of the maxima's buffer. -/
def maxOut : FVec F S8x256 .f32 :=
  shapeCast S8x256 (broadcastTo S8x256 (shapeCast S1x256 (shapeCast S1x256 (multiReduction .maximumf [0] S256 (maxAll Q K) 0xFF800000#32 reduces_S8x256_S256 (.inl rfl) rfl : FVec F S256 .f32) shapeCasts_S256_S1x256 : FVec F S1x256 .f32) shapeCasts_S1x256_S1x256 : FVec F S1x256 .f32) broadcasts_S1x256_S8x256 : FVec F S8x256 .f32) shapeCasts_S8x256_S8x256

/-- The weights of one score tile under the maxima. -/
def expT (m : Vec F S1x256 .f32) (a : Vec F S256x256 .f32) : FVec F S256x256 .f32 :=
  exp2 (subf (mulf a (broadcast S256x256 (Named.named κ "c_log2" 0x3E16C740#32))) (broadcastTo S256x256 (mulf m (broadcast S1x256 (Named.named κ "c_log2" 0x3E16C740#32)) : FVec F S1x256 .f32) broadcasts_S1x256_S256x256))

/-- The running sum of the weights after one more tile, kept apart for eight residues of the key. -/
def sumT (l : FVec F S8x256 .f32) (p : FVec F S256x256 .f32) : FVec F S8x256 .f32 :=
  addf l (multiReduction .add [0] S8x256 (shapeCast S32x8x256 p shapeCasts_S256x256_S32x8x256 : FVec F S32x8x256 .f32) 0x00000000#32 reduces_S32x8x256_S8x256 (.inl rfl) rfl)

/-- The running weighted sum of the values after one more tile. -/
def accT (acc : FVec F S96x256 .f32) (v : Vec F S96x256 .bf16) (p : FVec F S256x256 .f32) : FVec F S96x256 .f32 :=
  addf acc (matmul dot_S96x256_S256x256_S96x256_1_0_0_1_n_n none v (truncf .bf16 p bitsLt_bf16_f32 : FVec F S256x256 .bf16) (constant S96x256 .f32 0x00000000#32))

/-- The sum of the weights over all tiles, one row for each residue. -/
def sumAll (m : Vec F S1x256 .f32) : FVec F S8x256 .f32 :=
  tiles.foldl (fun l t => sumT l (expT m (A t))) (broadcast S8x256 (Scalar.ofBits .f32 0x00000000#32))

/-- The weighted sum of the values over all tiles. -/
def accAll (m : Vec F S1x256 .f32) : FVec F S96x256 .f32 :=
  tiles.foldl (fun acc t => accT acc (V t) (expT m (A t))) (broadcast S96x256 (Scalar.ofBits .f32 0x00000000#32))

/-- The pieces a trip writes to a score buffer, the last one first. -/
def scorePieces : List (View.Piece (Elt F) S4608x256 .f32) :=
  tiles.reverse.map fun t => ⟨Rect.unit (s := S4608x256) ![256 * t.val, 0] S256x256.size (inbA t), (shapeCast S256x256 (scoreT Q (K t)) shapeCasts_S256x256_S256x256 : FVec F S256x256 .f32)⟩

/-- The tiles read from the key buffer. -/
abbrev ldK (x7 : Buf (Elt F) (arg7.view.loc (c : Thread nD τ))) (t : Fin 18) : Vec F S256x128 .bf16 :=
  View.readAt (Elt F) arg7.view (Rect.unit (s := S4608x128) ![256 * t.val, 0] S256x128.size (inbK t)).toLoadRect x7

/-- The tiles read from the value buffer. -/
abbrev ldV (x8 : Buf (Elt F) (arg8.view.loc (c : Thread nD τ))) (t : Fin 18) : Vec F S96x256 .bf16 :=
  View.readAt (Elt F) arg8.view (Rect.unit (s := S96x4608) ![0, 256 * t.val] S96x256.size (inbV t)).toLoadRect x8

/-- The tiles read from a score buffer. -/
abbrev ldA (b : Memref sig .tc .vmem S4608x256 .f32) (x : Buf (Elt F) (b.view.loc (c : Thread nD τ))) (t : Fin 18) : Vec F S256x256 .f32 :=
  View.readAt (Elt F) b.view (Rect.unit (s := S4608x256) ![256 * t.val, 0] S256x256.size (inbA t)).toLoadRect x

/-- The row of maxima read from a maxima buffer. -/
abbrev ldM (b : Memref sig .tc .vmem S8x256 .f32) (x : Buf (Elt F) (b.view.loc (c : Thread nD τ))) : Vec F S1x256 .f32 :=
  View.readAt (Elt F) b.view (Rect.unit (s := S8x256) ![0, 0] S1x256.size inb_S8x256_S1x256_0_0).toLoadRect x

/-- An even trip: it scores into the second score buffer and attends the first. -/
def tripEven (k : Fin k0_t1_loop.trips) (h1 : k0_cond1 k = 1#1) (h2 : ¬ k0_cond2 k = 1#1)
    (x1 : Buf (Elt F) (arg1.view.loc (c : Thread nD τ))) (x7 : Buf (Elt F) (arg7.view.loc (c : Thread nD τ)))
    (x8 : Buf (Elt F) (arg8.view.loc (c : Thread nD τ))) (x9 : Buf (Elt F) (arg9.view.loc (c : Thread nD τ)))
    (x11 : Buf (Elt F) (arg11.view.loc (c : Thread nD τ))) :
    Σ' (L10 : List (View.Piece (Elt F) S4608x256 .f32)) (L12 : List (View.Piece (Elt F) S8x256 .f32)),
    { L6 : List (View.Piece (Elt F) S1x2304x128 .f32) //
      ∀ (f6 : Buf (Elt F) (arg6.view.loc (c : Thread nD τ))) (f10 : Buf (Elt F) (arg10.view.loc (c : Thread nD τ)))
        (f12 : Buf (Elt F) (arg12.view.loc (c : Thread nD τ))),
      iprop(holds c arg1 x1 ∗ holds c arg7 x7 ∗ holds c arg8 x8 ∗ holds c arg9 x9 ∗ holds c arg11 x11
          ∗ holds c arg6 f6 ∗ holds c arg10 f10 ∗ holds c arg12 f12)
        ⊢ wp frame (wpE (defs₀ (F := F)) Variants.none c none) Set.univ
            (k0_t1_body i arg1 harg1 arg2 harg2 arg3 harg3 arg4 harg4 arg5 harg5 arg6 harg6 arg7 harg7 arg8 harg8 arg9 harg9 arg10 harg10 arg11 harg11 arg12 harg12 arg0 v468 v605 v606 cst_397 k ())
            (fun _ => iprop(holds c arg1 x1 ∗ holds c arg7 x7 ∗ holds c arg8 x8 ∗ holds c arg9 x9 ∗ holds c arg11 x11
              ∗ holds c arg6 (arg6.view.writes (Elt F) f6 L6) ∗ holds c arg10 (arg10.view.writes (Elt F) f10 L10)
              ∗ holds c arg12 (arg12.view.writes (Elt F) f12 L12))) } := by
  refine ⟨?_, ?_, ?_, fun f6 f10 f12 => ?run⟩
  case run =>
    unfold holds
    iintro ⟨H1, H7, H8, H9, H11, H6, H10, H12⟩
    sl_unfold [k0_t1_body]
    sl_exec
    sl_step
    sl_close

/-- An odd trip: it scores into the first score buffer and attends the second. -/
def tripOdd (k : Fin k0_t1_loop.trips) (h1 : ¬ k0_cond1 k = 1#1) (h2 : k0_cond2 k = 1#1)
    (x1 : Buf (Elt F) (arg1.view.loc (c : Thread nD τ))) (x7 : Buf (Elt F) (arg7.view.loc (c : Thread nD τ)))
    (x8 : Buf (Elt F) (arg8.view.loc (c : Thread nD τ))) (x10 : Buf (Elt F) (arg10.view.loc (c : Thread nD τ)))
    (x12 : Buf (Elt F) (arg12.view.loc (c : Thread nD τ))) :
    Σ' (L9 : List (View.Piece (Elt F) S4608x256 .f32)) (L11 : List (View.Piece (Elt F) S8x256 .f32)),
    { L6 : List (View.Piece (Elt F) S1x2304x128 .f32) //
      ∀ (f6 : Buf (Elt F) (arg6.view.loc (c : Thread nD τ))) (f9 : Buf (Elt F) (arg9.view.loc (c : Thread nD τ)))
        (f11 : Buf (Elt F) (arg11.view.loc (c : Thread nD τ))),
      iprop(holds c arg1 x1 ∗ holds c arg7 x7 ∗ holds c arg8 x8 ∗ holds c arg10 x10 ∗ holds c arg12 x12
          ∗ holds c arg6 f6 ∗ holds c arg9 f9 ∗ holds c arg11 f11)
        ⊢ wp frame (wpE (defs₀ (F := F)) Variants.none c none) Set.univ
            (k0_t1_body i arg1 harg1 arg2 harg2 arg3 harg3 arg4 harg4 arg5 harg5 arg6 harg6 arg7 harg7 arg8 harg8 arg9 harg9 arg10 harg10 arg11 harg11 arg12 harg12 arg0 v468 v605 v606 cst_397 k ())
            (fun _ => iprop(holds c arg1 x1 ∗ holds c arg7 x7 ∗ holds c arg8 x8 ∗ holds c arg10 x10 ∗ holds c arg12 x12
              ∗ holds c arg6 (arg6.view.writes (Elt F) f6 L6) ∗ holds c arg9 (arg9.view.writes (Elt F) f9 L9)
              ∗ holds c arg11 (arg11.view.writes (Elt F) f11 L11))) } := by
  refine ⟨?_, ?_, ?_, fun f6 f9 f11 => ?run⟩
  case run =>
    unfold holds
    iintro ⟨H1, H7, H8, H10, H12, H6, H9, H11⟩
    sl_unfold [k0_t1_body]
    sl_exec
    sl_step
    sl_close

theorem tripEven_scores (k : Fin k0_t1_loop.trips) (h1 : k0_cond1 k = 1#1) (h2 : ¬ k0_cond2 k = 1#1) (x1 : Buf (Elt F) (arg1.view.loc (c : Thread nD τ))) (x7 : Buf (Elt F) (arg7.view.loc (c : Thread nD τ))) (x8 : Buf (Elt F) (arg8.view.loc (c : Thread nD τ))) (x9 : Buf (Elt F) (arg9.view.loc (c : Thread nD τ))) (x11 : Buf (Elt F) (arg11.view.loc (c : Thread nD τ))) :
    (tripEven c i arg1 harg1 arg2 harg2 arg3 harg3 arg4 harg4 arg5 harg5 arg6 harg6 arg7 harg7 arg8 harg8 arg9 harg9 arg10 harg10 arg11 harg11 arg12 harg12 arg0 v468 v605 v606 cst_397 k h1 h2 x1 x7 x8 x9 x11).1 = scorePieces (View.readAt (Elt F) arg1.view (Rect.unit (s := S1x128x2304) (k0_off1 k) S1x128x256.size (facts₀.k0_off1_inb k h1)).toLoadRect x1) (ldK c arg7 x7) := rfl

theorem tripEven_maxima (k : Fin k0_t1_loop.trips) (h1 : k0_cond1 k = 1#1) (h2 : ¬ k0_cond2 k = 1#1) (x1 : Buf (Elt F) (arg1.view.loc (c : Thread nD τ))) (x7 : Buf (Elt F) (arg7.view.loc (c : Thread nD τ))) (x8 : Buf (Elt F) (arg8.view.loc (c : Thread nD τ))) (x9 : Buf (Elt F) (arg9.view.loc (c : Thread nD τ))) (x11 : Buf (Elt F) (arg11.view.loc (c : Thread nD τ))) :
    (tripEven c i arg1 harg1 arg2 harg2 arg3 harg3 arg4 harg4 arg5 harg5 arg6 harg6 arg7 harg7 arg8 harg8 arg9 harg9 arg10 harg10 arg11 harg11 arg12 harg12 arg0 v468 v605 v606 cst_397 k h1 h2 x1 x7 x8 x9 x11).2.1 = [⟨Rect.unit (s := S8x256) ![0, 0] S8x256.size inb_S8x256_S8x256_0_0, maxOut (View.readAt (Elt F) arg1.view (Rect.unit (s := S1x128x2304) (k0_off1 k) S1x128x256.size (facts₀.k0_off1_inb k h1)).toLoadRect x1) (ldK c arg7 x7)⟩] := rfl

theorem tripEven_out (k : Fin k0_t1_loop.trips) (h1 : k0_cond1 k = 1#1) (h2 : ¬ k0_cond2 k = 1#1) (x1 : Buf (Elt F) (arg1.view.loc (c : Thread nD τ))) (x7 : Buf (Elt F) (arg7.view.loc (c : Thread nD τ))) (x8 : Buf (Elt F) (arg8.view.loc (c : Thread nD τ))) (x9 : Buf (Elt F) (arg9.view.loc (c : Thread nD τ))) (x11 : Buf (Elt F) (arg11.view.loc (c : Thread nD τ))) :
    (tripEven c i arg1 harg1 arg2 harg2 arg3 harg3 arg4 harg4 arg5 harg5 arg6 harg6 arg7 harg7 arg8 harg8 arg9 harg9 arg10 harg10 arg11 harg11 arg12 harg12 arg0 v468 v605 v606 cst_397 k h1 h2 x1 x7 x8 x9 x11).2.2.1 = [⟨Rect.unit (s := S1x2304x128) (k0_off2 k) S1x256x128.size (facts₀.k0_off2_inb k h1),
      k0_pay285 arg0 (ldM c arg11 x11) (sumAll (ldA c arg9 x9) (ldM c arg11 x11)) (accAll (ldV c arg8 x8) (ldA c arg9 x9) (ldM c arg11 x11))⟩] := rfl

theorem tripOdd_scores (k : Fin k0_t1_loop.trips) (h1 : ¬ k0_cond1 k = 1#1) (h2 : k0_cond2 k = 1#1) (x1 : Buf (Elt F) (arg1.view.loc (c : Thread nD τ))) (x7 : Buf (Elt F) (arg7.view.loc (c : Thread nD τ))) (x8 : Buf (Elt F) (arg8.view.loc (c : Thread nD τ))) (x10 : Buf (Elt F) (arg10.view.loc (c : Thread nD τ))) (x12 : Buf (Elt F) (arg12.view.loc (c : Thread nD τ))) :
    (tripOdd c i arg1 harg1 arg2 harg2 arg3 harg3 arg4 harg4 arg5 harg5 arg6 harg6 arg7 harg7 arg8 harg8 arg9 harg9 arg10 harg10 arg11 harg11 arg12 harg12 arg0 v468 v605 v606 cst_397 k h1 h2 x1 x7 x8 x10 x12).1 = scorePieces (View.readAt (Elt F) arg1.view (Rect.unit (s := S1x128x2304) (k0_off3 k) S1x128x256.size (facts₀.k0_off3_inb k h2)).toLoadRect x1) (ldK c arg7 x7) := rfl

theorem tripOdd_maxima (k : Fin k0_t1_loop.trips) (h1 : ¬ k0_cond1 k = 1#1) (h2 : k0_cond2 k = 1#1) (x1 : Buf (Elt F) (arg1.view.loc (c : Thread nD τ))) (x7 : Buf (Elt F) (arg7.view.loc (c : Thread nD τ))) (x8 : Buf (Elt F) (arg8.view.loc (c : Thread nD τ))) (x10 : Buf (Elt F) (arg10.view.loc (c : Thread nD τ))) (x12 : Buf (Elt F) (arg12.view.loc (c : Thread nD τ))) :
    (tripOdd c i arg1 harg1 arg2 harg2 arg3 harg3 arg4 harg4 arg5 harg5 arg6 harg6 arg7 harg7 arg8 harg8 arg9 harg9 arg10 harg10 arg11 harg11 arg12 harg12 arg0 v468 v605 v606 cst_397 k h1 h2 x1 x7 x8 x10 x12).2.1 = [⟨Rect.unit (s := S8x256) ![0, 0] S8x256.size inb_S8x256_S8x256_0_0, maxOut (View.readAt (Elt F) arg1.view (Rect.unit (s := S1x128x2304) (k0_off3 k) S1x128x256.size (facts₀.k0_off3_inb k h2)).toLoadRect x1) (ldK c arg7 x7)⟩] := rfl

theorem tripOdd_out (k : Fin k0_t1_loop.trips) (h1 : ¬ k0_cond1 k = 1#1) (h2 : k0_cond2 k = 1#1) (x1 : Buf (Elt F) (arg1.view.loc (c : Thread nD τ))) (x7 : Buf (Elt F) (arg7.view.loc (c : Thread nD τ))) (x8 : Buf (Elt F) (arg8.view.loc (c : Thread nD τ))) (x10 : Buf (Elt F) (arg10.view.loc (c : Thread nD τ))) (x12 : Buf (Elt F) (arg12.view.loc (c : Thread nD τ))) :
    (tripOdd c i arg1 harg1 arg2 harg2 arg3 harg3 arg4 harg4 arg5 harg5 arg6 harg6 arg7 harg7 arg8 harg8 arg9 harg9 arg10 harg10 arg11 harg11 arg12 harg12 arg0 v468 v605 v606 cst_397 k h1 h2 x1 x7 x8 x10 x12).2.2.1 = [⟨Rect.unit (s := S1x2304x128) (k0_off4 k) S1x256x128.size (facts₀.k0_off4_inb k h2),
      k0_pay285 arg0 (ldM c arg12 x12) (sumAll (ldA c arg10 x10) (ldM c arg12 x12)) (accAll (ldV c arg8 x8) (ldA c arg10 x10) (ldM c arg12 x12))⟩] := rfl

/-- The trip's triple over the folds. -/
theorem tripEven_run (k : Fin k0_t1_loop.trips) (h1 : k0_cond1 k = 1#1) (h2 : ¬ k0_cond2 k = 1#1) (x1 : Buf (Elt F) (arg1.view.loc (c : Thread nD τ))) (x7 : Buf (Elt F) (arg7.view.loc (c : Thread nD τ))) (x8 : Buf (Elt F) (arg8.view.loc (c : Thread nD τ))) (x9 : Buf (Elt F) (arg9.view.loc (c : Thread nD τ))) (x11 : Buf (Elt F) (arg11.view.loc (c : Thread nD τ)))
    (f6 : Buf (Elt F) (arg6.view.loc (c : Thread nD τ))) (f10 : Buf (Elt F) (arg10.view.loc (c : Thread nD τ))) (f12 : Buf (Elt F) (arg12.view.loc (c : Thread nD τ))) :
    iprop(holds c arg1 x1 ∗ holds c arg7 x7 ∗ holds c arg8 x8 ∗ holds c arg9 x9 ∗ holds c arg11 x11
          ∗ holds c arg6 f6 ∗ holds c arg10 f10 ∗ holds c arg12 f12)
        ⊢ wp frame (wpE (defs₀ (F := F)) Variants.none c none) Set.univ
            (k0_t1_body i arg1 harg1 arg2 harg2 arg3 harg3 arg4 harg4 arg5 harg5 arg6 harg6 arg7 harg7 arg8 harg8 arg9 harg9 arg10 harg10 arg11 harg11 arg12 harg12 arg0 v468 v605 v606 cst_397 k ())
            (fun _ => iprop(holds c arg1 x1 ∗ holds c arg7 x7 ∗ holds c arg8 x8 ∗ holds c arg9 x9 ∗ holds c arg11 x11
              ∗ holds c arg6 (arg6.view.writes (Elt F) f6 [⟨Rect.unit (s := S1x2304x128) (k0_off2 k) S1x256x128.size (facts₀.k0_off2_inb k h1),
      k0_pay285 arg0 (ldM c arg11 x11) (sumAll (ldA c arg9 x9) (ldM c arg11 x11)) (accAll (ldV c arg8 x8) (ldA c arg9 x9) (ldM c arg11 x11))⟩])
              ∗ holds c arg10 (arg10.view.writes (Elt F) f10 (scorePieces (View.readAt (Elt F) arg1.view (Rect.unit (s := S1x128x2304) (k0_off1 k) S1x128x256.size (facts₀.k0_off1_inb k h1)).toLoadRect x1) (ldK c arg7 x7)))
              ∗ holds c arg12 (arg12.view.writes (Elt F) f12 [⟨Rect.unit (s := S8x256) ![0, 0] S8x256.size inb_S8x256_S8x256_0_0, maxOut (View.readAt (Elt F) arg1.view (Rect.unit (s := S1x128x2304) (k0_off1 k) S1x128x256.size (facts₀.k0_off1_inb k h1)).toLoadRect x1) (ldK c arg7 x7)⟩]))) := by
  have t := (tripEven c i arg1 harg1 arg2 harg2 arg3 harg3 arg4 harg4 arg5 harg5 arg6 harg6 arg7 harg7 arg8 harg8 arg9 harg9 arg10 harg10 arg11 harg11 arg12 harg12 arg0 v468 v605 v606 cst_397 k h1 h2 x1 x7 x8 x9 x11).2.2.2 f6 f10 f12
  rw [tripEven_out, tripEven_maxima, tripEven_scores] at t
  exact t

/-- The trip's triple over the folds. -/
theorem tripOdd_run (k : Fin k0_t1_loop.trips) (h1 : ¬ k0_cond1 k = 1#1) (h2 : k0_cond2 k = 1#1) (x1 : Buf (Elt F) (arg1.view.loc (c : Thread nD τ))) (x7 : Buf (Elt F) (arg7.view.loc (c : Thread nD τ))) (x8 : Buf (Elt F) (arg8.view.loc (c : Thread nD τ))) (x10 : Buf (Elt F) (arg10.view.loc (c : Thread nD τ))) (x12 : Buf (Elt F) (arg12.view.loc (c : Thread nD τ)))
    (f6 : Buf (Elt F) (arg6.view.loc (c : Thread nD τ))) (f9 : Buf (Elt F) (arg9.view.loc (c : Thread nD τ))) (f11 : Buf (Elt F) (arg11.view.loc (c : Thread nD τ))) :
    iprop(holds c arg1 x1 ∗ holds c arg7 x7 ∗ holds c arg8 x8 ∗ holds c arg10 x10 ∗ holds c arg12 x12
          ∗ holds c arg6 f6 ∗ holds c arg9 f9 ∗ holds c arg11 f11)
        ⊢ wp frame (wpE (defs₀ (F := F)) Variants.none c none) Set.univ
            (k0_t1_body i arg1 harg1 arg2 harg2 arg3 harg3 arg4 harg4 arg5 harg5 arg6 harg6 arg7 harg7 arg8 harg8 arg9 harg9 arg10 harg10 arg11 harg11 arg12 harg12 arg0 v468 v605 v606 cst_397 k ())
            (fun _ => iprop(holds c arg1 x1 ∗ holds c arg7 x7 ∗ holds c arg8 x8 ∗ holds c arg10 x10 ∗ holds c arg12 x12
              ∗ holds c arg6 (arg6.view.writes (Elt F) f6 [⟨Rect.unit (s := S1x2304x128) (k0_off4 k) S1x256x128.size (facts₀.k0_off4_inb k h2),
      k0_pay285 arg0 (ldM c arg12 x12) (sumAll (ldA c arg10 x10) (ldM c arg12 x12)) (accAll (ldV c arg8 x8) (ldA c arg10 x10) (ldM c arg12 x12))⟩])
              ∗ holds c arg9 (arg9.view.writes (Elt F) f9 (scorePieces (View.readAt (Elt F) arg1.view (Rect.unit (s := S1x128x2304) (k0_off3 k) S1x128x256.size (facts₀.k0_off3_inb k h2)).toLoadRect x1) (ldK c arg7 x7)))
              ∗ holds c arg11 (arg11.view.writes (Elt F) f11 [⟨Rect.unit (s := S8x256) ![0, 0] S8x256.size inb_S8x256_S8x256_0_0, maxOut (View.readAt (Elt F) arg1.view (Rect.unit (s := S1x128x2304) (k0_off3 k) S1x128x256.size (facts₀.k0_off3_inb k h2)).toLoadRect x1) (ldK c arg7 x7)⟩]))) := by
  have t := (tripOdd c i arg1 harg1 arg2 harg2 arg3 harg3 arg4 harg4 arg5 harg5 arg6 harg6 arg7 harg7 arg8 harg8 arg9 harg9 arg10 harg10 arg11 harg11 arg12 harg12 arg0 v468 v605 v606 cst_397 k h1 h2 x1 x7 x8 x10 x12).2.2.2 f6 f9 f11
  rw [tripOdd_out, tripOdd_maxima, tripOdd_scores] at t
  exact t

end Cert.KernelIdeal.Gen

end
-- ==== Proof.Prefix.Tile.lean ====
/- The tile functions over the extended reals, entry by entry, and their folds over the key tiles as sums and suprema over all keys. -/
module

public import proofs.«01_k».proof.Proof.Prefix.Trip
public import Idealize.ShloMosaic.Lib.Pointwise
public import Idealize.ShloMosaic.PureOps.IdealRules

@[expose] public section

set_option maxRecDepth 65536

noncomputable section

namespace Cert.KernelIdeal.Gen

open Idealize.ShloMosaic Idealize.ShloMosaic.TcCoe Idealize.ShloMosaic.Tactic
open Idealize.ShloMosaic.Pointwise

/-- The scale of the scores in base two. -/
abbrev C2 : EReal := (Named.named (F := Ideal) κ "c_log2" 0x3E16C740#32 : Ideal .f32)

/-- The scale of the scores. -/
abbrev C1 : EReal := (Named.named (F := Ideal) κ "score_scale" 0x3DD105EC#32 : Ideal .f32)

/-- The key at a place of a tile. -/
abbrev key (t : Fin 18) (r : Fin 256) : Fin 4608 := ⟨256 * t.val + r.val, by omega⟩

/-- A tile's row from its place among the eights. -/
abbrev row8 (g : Fin 32) (a : Fin 8) : Fin 256 := ⟨g.val * 8 + a.val, by omega⟩

variable (q : Vec Ideal S1x128x256 .bf16) (w : Vec Ideal S256x128 .bf16)

theorem ninf : Ideal.ofBits FTy.f32 0xFF800000#32 = ⊥ := by
  simp [Ideal.ofBits, Ideal.ieee]

theorem masked_bot : (Named.named (F := Ideal) κ "masked" 0xF149F2CA#32 : Ideal .f32) = (⊥ : EReal) :=
  IdealRules.named_const.ideal_named_scalar _ _ _ _ rfl

theorem scoreT_at (r c : Fin 256) :
    scoreT q w (ix2 r c) = ∑ d : Fin 128, w (ix2 r d) * q (ix3 0 d c) := by
  pointwise [scoreT]

theorem fold_max {n : ℕ} (f : Fin n → EReal) : Finset.fold max ⊥ f Finset.univ = ⨆ x, f x := by
  rw [← Finset.sup_univ_eq_iSup]; rfl

theorem maxT_at (mx : FVec Ideal S8x256 .f32) (s : FVec Ideal S256x256 .f32) (a : Fin 8) (c : Fin 256) :
    maxT mx s (ix2 a c) = (max (mx (ix2 a c) : EReal) (⨆ g : Fin 32, s (ix2 (row8 g a) c) : EReal) : EReal) := by
  pointwise [maxT]
  rw [ninf, fold_max]

theorem expT_at (m : Vec Ideal S1x256 .f32) (a : Vec Ideal S256x256 .f32) (r c : Fin 256) :
    expT m a (ix2 r c) = Ideal.exp2 (a (ix2 r c) * C2 - m (ix2 0 c) * C2) := by
  pointwise [expT]
  rfl

theorem sumT_at (l : FVec Ideal S8x256 .f32) (p : FVec Ideal S256x256 .f32) (a : Fin 8) (c : Fin 256) :
    sumT l p (ix2 a c) = l (ix2 a c) + ∑ g : Fin 32, p (ix2 (row8 g a) c) := by
  pointwise [sumT]

theorem accT_at (acc : FVec Ideal S96x256 .f32) (v : Vec Ideal S96x256 .bf16) (p : FVec Ideal S256x256 .f32) (d : Fin 96) (c : Fin 256) :
    accT acc v p (ix2 d c) = acc (ix2 d c) + ∑ r : Fin 256, v (ix2 d r) * p (ix2 r c) := by
  pointwise [accT]

theorem maxOut_at (K : Fin 18 → Vec Ideal S256x128 .bf16) (a : Fin 8) (c : Fin 256) :
    maxOut q K (ix2 a c) = (⨆ b : Fin 8, maxAll q K (ix2 b c) : EReal) := by
  pointwise [maxOut]
  rw [ninf, fold_max]

theorem out_at (h : BitVec 32) (m : Vec Ideal S1x256 .f32) (l : FVec Ideal S8x256 .f32) (acc : FVec Ideal S96x256 .f32) (r : Fin 256) (n : Fin 128) :
    k0_pay285 h m l acc (ix3 0 r n) = (if h_1 : n.val < 96 then acc (ix2 ⟨n.val, h_1⟩ r)
    else
      Scalar.select (IntOp.cmpi CmpIPredicate.eq (IntOp.subi (BitVec.ofNat 32 (n.val - 96)) h) 0#32)
        (m (ix2 0 r) * C1)
        (Scalar.select (IntOp.cmpi CmpIPredicate.eq (IntOp.subi (BitVec.ofNat 32 (n.val - 96)) h) 16#32) (∑ b : Fin 8, l (ix2 b r) : EReal)
          (0 : EReal)) : EReal) := by
  pointwise [k0_pay285]

/-- The tiles taken are all tiles. -/
theorem tiles_sum (g : Fin 18 → EReal) : (tiles.map g).sum = ∑ t, g t := by
  rw [Fin.sum_univ_def]; rfl

theorem foldl_add {α : Type} (f : (α → EReal) → Fin 18 → (α → EReal)) (g : Fin 18 → EReal) (y : α)
    (h : ∀ z t, f z t y = z y + g t) (l : List (Fin 18)) (z : α → EReal) : l.foldl f z y = z y + (l.map g).sum := by
  induction l generalizing z with
  | nil => simp
  | cons t l ih => rw [List.foldl_cons, ih, h, List.map_cons, List.sum_cons, add_assoc]

theorem foldl_max {α : Type} (f : (α → EReal) → Fin 18 → (α → EReal)) (g : Fin 18 → EReal) (y : α)
    (h : ∀ z t, f z t y = max (z y) (g t)) (l : List (Fin 18)) (z : α → EReal) : l.foldl f z y = max (z y) (l.toFinset.sup g) := by
  induction l generalizing z with
  | nil => simp
  | cons t l ih => rw [List.foldl_cons, ih, h, List.toFinset_cons, Finset.sup_insert, max_assoc]

theorem tiles_univ : tiles.toFinset = Finset.univ := by decide

attribute [local irreducible] maxT scoreT in
theorem maxAll_at (K : Fin 18 → Vec Ideal S256x128 .bf16) (a : Fin 8) (c : Fin 256) :
    maxAll q K (ix2 a c) = (⨆ t : Fin 18, ⨆ g : Fin 32, scoreT q (K t) (ix2 (row8 g a) c) : EReal) := by
  unfold maxAll
  refine (foldl_max (α := S8x256.Idx) (fun mx t => maxT mx (scoreT q (K t))) (fun t => ⨆ g : Fin 32, scoreT q (K t) (ix2 (row8 g a) c)) (ix2 a c) (fun z t => maxT_at _ _ _ _) tiles _).trans ?_
  rw [tiles_univ, Finset.sup_univ_eq_iSup]
  refine (congrArg (fun z : EReal => max z _) (show _ = (⊥ : EReal) from masked_bot)).trans (max_eq_right bot_le)

theorem sumAll_at (A : Fin 18 → Vec Ideal S256x256 .f32) (m : Vec Ideal S1x256 .f32) (a : Fin 8) (c : Fin 256) :
    sumAll A m (ix2 a c) = (∑ t : Fin 18, ∑ g : Fin 32, expT m (A t) (ix2 (row8 g a) c) : EReal) := by
  unfold sumAll
  refine (foldl_add (α := S8x256.Idx) (fun l t => sumT l (expT m (A t))) (fun t => ∑ g : Fin 32, expT m (A t) (ix2 (row8 g a) c)) (ix2 a c) (fun z t => sumT_at _ _ _ _) tiles _).trans ?_
  rw [tiles_sum]
  refine (congrArg (fun z : EReal => z + _) (show _ = (0 : EReal) by pointwise)).trans (zero_add _)

theorem accAll_at (A : Fin 18 → Vec Ideal S256x256 .f32) (V : Fin 18 → Vec Ideal S96x256 .bf16) (m : Vec Ideal S1x256 .f32) (d : Fin 96) (c : Fin 256) :
    accAll V A m (ix2 d c) = (∑ t : Fin 18, ∑ r : Fin 256, V t (ix2 d r) * expT m (A t) (ix2 r c) : EReal) := by
  unfold accAll
  refine (foldl_add (α := S96x256.Idx) (fun l t => accT l (V t) (expT m (A t))) (fun t => ∑ r : Fin 256, V t (ix2 d r) * expT m (A t) (ix2 r c)) (ix2 d c) (fun z t => accT_at _ _ _ _ _) tiles _).trans ?_
  rw [tiles_sum]
  refine (congrArg (fun z : EReal => z + _) (show _ = (0 : EReal) by pointwise)).trans (zero_add _)

/-- A sum over blocks is the sum over all places. -/
theorem sum_block {n m : ℕ} (F : Fin (n * m) → EReal) (h : ∀ (a : Fin n) (b : Fin m), m * a.val + b.val < n * m) :
    ∑ a : Fin n, ∑ b : Fin m, F ⟨m * a.val + b.val, h a b⟩ = ∑ r, F r := by
  rw [← finProdFinEquiv.sum_comp, Fintype.sum_prod_type]
  refine Finset.sum_congr rfl fun a _ => Finset.sum_congr rfl fun b _ => congrArg F (Fin.ext ?_)
  simp [finProdFinEquiv]; ring

theorem sum_keys (G : Fin 4608 → EReal) : ∑ t : Fin 18, ∑ r : Fin 256, G (key t r) = ∑ k, G k :=
  sum_block (n := 18) (m := 256) G _

theorem sum_rows (G : Fin 256 → EReal) : ∑ g : Fin 32, ∑ a : Fin 8, G (row8 g a) = ∑ r, G r := by
  refine Eq.trans ?_ (sum_block (n := 32) (m := 8) G (fun a b => by omega))
  refine Finset.sum_congr rfl fun a _ => Finset.sum_congr rfl fun b _ => congrArg G (Fin.ext ?_)
  simp; ring

theorem sum_eights (G : Fin 4608 → EReal) : ∑ a : Fin 8, ∑ t : Fin 18, ∑ g : Fin 32, G (key t (row8 g a)) = ∑ k, G k := by
  rw [Finset.sum_comm, ← sum_keys]
  refine Finset.sum_congr rfl fun t _ => ?_
  rw [Finset.sum_comm, ← sum_rows]

theorem sup_eights (G : Fin 4608 → EReal) : (⨆ a : Fin 8, ⨆ t : Fin 18, ⨆ g : Fin 32, G (key t (row8 g a))) = ⨆ k, G k := by
  refine le_antisymm (iSup_le fun a => iSup_le fun t => iSup_le fun g => le_iSup G _) (iSup_le fun k => ?_)
  refine le_iSup_of_le ⟨k.val % 8, by omega⟩ (le_iSup_of_le ⟨k.val / 256, by omega⟩ (le_iSup_of_le ⟨k.val % 256 / 8, by omega⟩ (le_of_eq (congrArg G (Fin.ext ?_)))))
  simp only [key, row8]; omega

/-- What a query's column of scores comes to: the maximum, the sum of the weights and the weighted values. -/
structure Col where
  /-- The scores. -/
  s : Fin 4608 → EReal
  /-- The values. -/
  v : Fin 96 → Fin 4608 → EReal

/-- The largest score. -/
def Col.max (C : Col) : EReal := ⨆ k, C.s k

/-- A key's weight. -/
def Col.p (C : Col) (k : Fin 4608) : EReal := Ideal.exp2 (C.s k * C2 - C.max * C2)

/-- A lane of the query's row of the result. -/
def Col.out (C : Col) (h : BitVec 32) (n : Fin 128) : EReal :=
  if h_1 : n.val < 96 then ∑ k, C.v ⟨n.val, h_1⟩ k * C.p k
  else Scalar.select (IntOp.cmpi CmpIPredicate.eq (IntOp.subi (BitVec.ofNat 32 (n.val - 96)) h) 0#32) (C.max * C1)
    (Scalar.select (IntOp.cmpi CmpIPredicate.eq (IntOp.subi (BitVec.ofNat 32 (n.val - 96)) h) 16#32) (∑ k, C.p k) (0 : EReal))

theorem maxOut_col (C : Col) (K : Fin 18 → Vec Ideal S256x128 .bf16) (c : Fin 256)
    (hs : ∀ t r, scoreT q (K t) (ix2 r c) = C.s (key t r)) (a : Fin 8) : maxOut q K (ix2 a c) = C.max := by
  rw [maxOut_at]
  simp only [maxAll_at, hs]
  exact sup_eights C.s

theorem out_col (C : Col) (h : BitVec 32) (A : Fin 18 → Vec Ideal S256x256 .f32) (V : Fin 18 → Vec Ideal S96x256 .bf16) (m : Vec Ideal S1x256 .f32)
    (c : Fin 256) (hA : ∀ t r, A t (ix2 r c) = C.s (key t r)) (hV : ∀ t d r, V t (ix2 d r) = C.v d (key t r)) (hm : m (ix2 0 c) = C.max) (n : Fin 128) :
    k0_pay285 h m (sumAll A m) (accAll V A m) (ix3 0 c n) = C.out h n := by
  rw [out_at, Col.out]
  simp only [sumAll_at, accAll_at, expT_at, hA, hV, hm]
  have e1 := sum_eights C.p
  have e2 := fun d => sum_keys (fun k => C.v d k * C.p k)
  simp only [Col.p] at e1 e2
  simp only [e1, e2, Col.p]

end Cert.KernelIdeal.Gen

end
-- ==== Proof.Prefix.Step.lean ====
/- One trip of the loop over the extended reals: what it leaves in the score buffer, the maxima's buffer and the result's rows. -/
module

public import proofs.«01_k».proof.Proof.Prefix.Tile
public import Idealize.ShloMosaic.Lib.WritesUnit
public import Idealize.ShloMosaic.Lib.VecWindow

@[expose] public section

set_option maxRecDepth 65536

noncomputable section

namespace Cert.KernelIdeal.Gen

open Idealize.ShloMosaic Idealize.ShloMosaic.TcCoe Idealize.ShloMosaic.Tactic
open Idealize.ShloMosaic.Pointwise
open Idealize.SL Idealize.SL.RA Idealize.SL.BI Idealize.SL.Sem

variable (c : Dev nD)

/-- Every key is a place of a tile. -/
theorem key_split (k : Fin 4608) : k = key ⟨k.val / 256, by omega⟩ ⟨k.val % 256, by omega⟩ :=
  Fin.ext (by simp only [key]; omega)

theorem ldK_at (b : Memref sig .tc .vmem S4608x128 .bf16) (x : Buf (Elt Ideal) (b.view.loc (c : Thread nD τ))) (t : Fin 18) (r : Fin 256) (d : Fin 128) :
    ldK c b x t (ix2 r d) = b.view.read (Elt Ideal) x (ix2 (key t r) d) := by
  unfold ldK
  rw [View.readAt_unit b.view x _ rfl (inbK t)]
  refine congrArg (b.view.read (Elt Ideal) x) (funext fun a => Fin.ext ?_)
  fin_cases a
  · show 256 * t.val + 1 * r.val = 256 * t.val + r.val; omega
  · show 0 + 1 * d.val = d.val; omega

theorem ldA_at (b : Memref sig .tc .vmem S4608x256 .f32) (x : Buf (Elt Ideal) (b.view.loc (c : Thread nD τ))) (t : Fin 18) (r : Fin 256) (d : Fin 256) :
    ldA c b x t (ix2 r d) = b.view.read (Elt Ideal) x (ix2 (key t r) d) := by
  unfold ldA
  rw [View.readAt_unit b.view x _ rfl (inbA t)]
  refine congrArg (b.view.read (Elt Ideal) x) (funext fun a => Fin.ext ?_)
  fin_cases a
  · show 256 * t.val + 1 * r.val = 256 * t.val + r.val; omega
  · show 0 + 1 * d.val = d.val; omega

theorem ldV_at (b : Memref sig .tc .vmem S96x4608 .bf16) (x : Buf (Elt Ideal) (b.view.loc (c : Thread nD τ))) (t : Fin 18) (d : Fin 96) (r : Fin 256) :
    ldV c b x t (ix2 d r) = b.view.read (Elt Ideal) x (ix2 d (key t r)) := by
  unfold ldV
  rw [View.readAt_unit b.view x _ rfl (inbV t)]
  refine congrArg (b.view.read (Elt Ideal) x) (funext fun a => Fin.ext ?_)
  fin_cases a
  · show 0 + 1 * d.val = d.val; omega
  · show 256 * t.val + 1 * r.val = 256 * t.val + r.val; omega

theorem ldM_at (b : Memref sig .tc .vmem S8x256 .f32) (x : Buf (Elt Ideal) (b.view.loc (c : Thread nD τ))) (d : Fin 256) :
    ldM c b x (ix2 0 d) = b.view.read (Elt Ideal) x (ix2 0 d) := by
  unfold ldM
  rw [View.readAt_unit b.view x _ rfl inb_S8x256_S1x256_0_0]
  refine congrArg (b.view.read (Elt Ideal) x) (funext fun a => Fin.ext ?_)
  fin_cases a
  · show 0 + 1 * 0 = 0; rfl
  · show 0 + 1 * d.val = d.val; omega

/-- A tile of queries read from their buffer. -/
theorem ldQ_at (b : Memref sig .tc .vmem S1x128x2304 .bf16) (x : Buf (Elt Ideal) (b.view.loc (c : Thread nD τ))) (off : Fin 3 → ℕ) (k : ℕ)
    (ho : off = ![0, 0, 256 * k]) (inb : ∀ a, off a + S1x128x256.size a ≤ S1x128x2304.size a) (d : Fin 128) (l : Fin 256) (j : Fin 2304) (hj : j.val = 256 * k + l.val) :
    (View.readAt (Elt Ideal) b.view (Rect.unit (s := S1x128x2304) off S1x128x256.size inb).toLoadRect x : Vec Ideal S1x128x256 .bf16) (ix3 0 d l) = b.view.read (Elt Ideal) x (ix3 0 d j) := by
  subst ho
  rw [View.readAt_unit b.view x _ rfl inb]
  refine congrArg (b.view.read (Elt Ideal) x) (funext fun a => Fin.ext ?_)
  fin_cases a
  · rfl
  · show 0 + 1 * d.val = d.val; omega
  · show 256 * k + 1 * l.val = j.val; omega

/-- The score pieces, read back. -/
theorem scores_read (b : Memref sig .tc .vmem S4608x256 .f32) (f : Buf (Elt Ideal) (b.view.loc (c : Thread nD τ))) (Q : Vec Ideal S1x128x256 .bf16) (K : Fin 18 → Vec Ideal S256x128 .bf16)
    (t : Fin 18) (r l : Fin 256) :
    b.view.read (Elt Ideal) (b.view.writes (Elt Ideal) f (scorePieces Q K)) (ix2 (key t r) l) = scoreT Q (K t) (ix2 r l) := by
  unfold scorePieces
  have ht : t ∈ tiles.reverse := by revert t; decide
  generalize tiles.reverse = L at ht ⊢
  induction L with
  | nil => simp at ht
  | cons u L ih =>
    rw [List.map_cons]
    by_cases hu : u = t
    · subst hu
      refine (View.read_writes_cons_unit_of_mem b.view f (inbA u) _ _ (ix2 (key u r) l) (ix2 r l) rfl (fun a => ?_)).trans ?_
      · fin_cases a
        · rfl
        · show l.val = 0 + l.val; omega
      · pointwise
    · refine (View.read_writes_cons_unit_of_not_mem b.view f (inbA u) _ _ (ix2 (key t r) l) rfl 0 ?_).trans
        (ih ((List.mem_cons.1 ht).resolve_left fun e => hu e.symm))
      have : u.val ≠ t.val := fun e => hu (Fin.ext e)
      show 256 * t.val + r.val < 256 * u.val ∨ 256 * u.val + 256 ≤ 256 * t.val + r.val
      omega

variable (col : Fin 2304 → Col)

/-- What the queries', keys' and values' buffers hold makes the columns. -/
structure Cols (arg1 : Memref sig .tc .vmem S1x128x2304 .bf16) (arg7 : Memref sig .tc .vmem S4608x128 .bf16) (arg8 : Memref sig .tc .vmem S96x4608 .bf16)
    (x1 : Buf (Elt Ideal) (arg1.view.loc (c : Thread nD τ))) (x7 : Buf (Elt Ideal) (arg7.view.loc (c : Thread nD τ))) (x8 : Buf (Elt Ideal) (arg8.view.loc (c : Thread nD τ))) : Prop where
  s : ∀ j k, (∑ d : Fin 128, (arg7.view.read (Elt Ideal) x7 (ix2 k d) : EReal) * (arg1.view.read (Elt Ideal) x1 (ix3 0 d j) : EReal)) = (col j).s k
  v : ∀ j d k, (arg8.view.read (Elt Ideal) x8 (ix2 d k) : EReal) = (col j).v d k

/-- The buffers hold the scores and the maxima of query tile `k`. -/
structure Scored (a : Memref sig .tc .vmem S4608x256 .f32) (b : Memref sig .tc .vmem S8x256 .f32) (k : ℕ)
    (f : Buf (Elt Ideal) (a.view.loc (c : Thread nD τ))) (g : Buf (Elt Ideal) (b.view.loc (c : Thread nD τ))) : Prop where
  s : ∀ (j : Fin 2304) (l : Fin 256), j.val = 256 * k + l.val → ∀ r, (a.view.read (Elt Ideal) f (ix2 r l) : EReal) = (col j).s r
  m : ∀ (j : Fin 2304) (l : Fin 256), j.val = 256 * k + l.val → ∀ r, (b.view.read (Elt Ideal) g (ix2 r l) : EReal) = (col j).max

/-- The rows of the result before tile `k` are done. -/
def Done (arg0 : BitVec 32) (o : Memref sig .tc .vmem S1x2304x128 .f32) (k : ℕ) (f : Buf (Elt Ideal) (o.view.loc (c : Thread nD τ))) : Prop :=
  ∀ (j : Fin 2304), j.val < 256 * k → ∀ n, (o.view.read (Elt Ideal) f (ix3 0 j n) : EReal) = (col j).out arg0 n

variable {arg1 : Memref sig .tc .vmem S1x128x2304 .bf16} {arg7 : Memref sig .tc .vmem S4608x128 .bf16} {arg8 : Memref sig .tc .vmem S96x4608 .bf16}
    {x1 : Buf (Elt Ideal) (arg1.view.loc (c : Thread nD τ))} {x7 : Buf (Elt Ideal) (arg7.view.loc (c : Thread nD τ))} {x8 : Buf (Elt Ideal) (arg8.view.loc (c : Thread nD τ))}

theorem scoreT_col (H : Cols c col arg1 arg7 arg8 x1 x7 x8) (off : Fin 3 → ℕ) (k : ℕ) (ho : off = ![0, 0, 256 * k])
    (inb : ∀ a, off a + S1x128x256.size a ≤ S1x128x2304.size a) (j : Fin 2304) (l : Fin 256) (hj : j.val = 256 * k + l.val) (t : Fin 18) (r : Fin 256) :
    (scoreT (View.readAt (Elt Ideal) arg1.view (Rect.unit (s := S1x128x2304) off S1x128x256.size inb).toLoadRect x1) (ldK c arg7 x7 t) (ix2 r l) : EReal) = (col j).s (key t r) := by
  rw [← H.s j (key t r), scoreT_at]
  refine Finset.sum_congr rfl fun d _ => ?_
  rw [ldK_at, ldQ_at c arg1 x1 off k ho inb d l j hj]

/-- Scoring a tile of queries. -/
theorem scored_step (H : Cols c col arg1 arg7 arg8 x1 x7 x8) (off : Fin 3 → ℕ) (k : ℕ) (ho : off = ![0, 0, 256 * k])
    (inb : ∀ a, off a + S1x128x256.size a ≤ S1x128x2304.size a)
    (a : Memref sig .tc .vmem S4608x256 .f32) (b : Memref sig .tc .vmem S8x256 .f32)
    (f : Buf (Elt Ideal) (a.view.loc (c : Thread nD τ))) (g : Buf (Elt Ideal) (b.view.loc (c : Thread nD τ))) :
    Scored c col a b k
      (a.view.writes (Elt Ideal) f (scorePieces (View.readAt (Elt Ideal) arg1.view (Rect.unit (s := S1x128x2304) off S1x128x256.size inb).toLoadRect x1) (ldK c arg7 x7)))
      (b.view.writes (Elt Ideal) g [⟨Rect.unit (s := S8x256) ![0, 0] S8x256.size inb_S8x256_S8x256_0_0,
        maxOut (View.readAt (Elt Ideal) arg1.view (Rect.unit (s := S1x128x2304) off S1x128x256.size inb).toLoadRect x1) (ldK c arg7 x7)⟩]) where
  s j l hj r := by
    rw [key_split r, scores_read]
    exact scoreT_col c col H off k ho inb j l hj _ _
  m j l hj r := by
    refine (View.read_writes_cons_unit_of_mem b.view g inb_S8x256_S8x256_0_0 _ [] (ix2 r l) (ix2 r l) rfl (fun a => ?_)).trans ?_
    · fin_cases a
      · show r.val = 0 + r.val; omega
      · show l.val = 0 + l.val; omega
    · exact maxOut_col _ (col j) _ l (fun t r => scoreT_col c col H off k ho inb j l hj t r) r

/-- Attending a tile of queries: its rows of the result join those before. -/
theorem done_step (H : Cols c col arg1 arg7 arg8 x1 x7 x8) (arg0 : BitVec 32) (off : Fin 3 → ℕ) (k : ℕ) (ho : off = ![0, 256 * k, 0])
    (inb : ∀ a, off a + S1x256x128.size a ≤ S1x2304x128.size a)
    (a : Memref sig .tc .vmem S4608x256 .f32) (b : Memref sig .tc .vmem S8x256 .f32) (o : Memref sig .tc .vmem S1x2304x128 .f32)
    (f : Buf (Elt Ideal) (a.view.loc (c : Thread nD τ))) (g : Buf (Elt Ideal) (b.view.loc (c : Thread nD τ))) (h : Buf (Elt Ideal) (o.view.loc (c : Thread nD τ)))
    (S : Scored c col a b k f g) (D : Done c col arg0 o k h) :
    Done c col arg0 o (k + 1) (o.view.writes (Elt Ideal) h [⟨Rect.unit (s := S1x2304x128) off S1x256x128.size inb,
      k0_pay285 arg0 (ldM c b g) (sumAll (ldA c a f) (ldM c b g)) (accAll (ldV c arg8 x8) (ldA c a f) (ldM c b g))⟩]) := by
  intro j hj n
  by_cases hlt : j.val < 256 * k
  · refine (View.read_writes_cons_unit_of_not_mem o.view h inb _ [] (ix3 0 j n) ho 1 (.inl hlt)).trans (D j hlt n)
  · have hl : j.val = 256 * k + (⟨j.val - 256 * k, by omega⟩ : Fin 256).val := by show j.val = 256 * k + (j.val - 256 * k); omega
    generalize (⟨j.val - 256 * k, by omega⟩ : Fin 256) = l at hl
    refine (View.read_writes_cons_unit_of_mem o.view h inb _ [] (ix3 0 j n) (ix3 0 l n) ho (fun a => ?_)).trans ?_
    · fin_cases a
      · rfl
      · exact hl
      · show n.val = 0 + n.val; omega
    · exact out_col (col j) arg0 _ _ _ l (fun t r => (ldA_at c a f t r l).trans (S.s j l hl _)) (fun t d r => (ldV_at c arg8 x8 t d r).trans (H.v j d _))
        ((ldM_at c b g l).trans (S.m j l hl 0)) n

theorem off1_eq : ∀ k : Fin k0_t1_loop.trips, k0_off1 k = ![0, 0, 256 * (k.val + 1)] := by decide
theorem off3_eq : ∀ k : Fin k0_t1_loop.trips, k0_off3 k = ![0, 0, 256 * (k.val + 1)] := by decide
theorem off2_eq : ∀ k : Fin k0_t1_loop.trips, k0_off2 k = ![0, 256 * k.val, 0] := by decide
theorem off4_eq : ∀ k : Fin k0_t1_loop.trips, k0_off4 k = ![0, 256 * k.val, 0] := by decide
theorem cond1_iff : ∀ k : Fin k0_t1_loop.trips, k0_cond1 k = 1#1 ↔ k.val % 2 = 0 := by decide
theorem cond2_iff : ∀ k : Fin k0_t1_loop.trips, k0_cond2 k = 1#1 ↔ ¬ k.val % 2 = 0 := by decide

end Cert.KernelIdeal.Gen

end
-- ==== Proof.Prefix.Loop.lean ====
/- The loop over the query tiles: its invariant over the extended reals, kept by every trip. -/
module

public import proofs.«01_k».proof.Proof.Prefix.Step

@[expose] public section

set_option maxRecDepth 65536

noncomputable section

namespace Cert.KernelIdeal.Gen

open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable
  (c : Dev nD) (i : grid0.Coords)
  (arg1 : Memref sig .tc .vmem S1x128x2304 .bf16) (harg1 : arg1.IsWhole)
  (arg2 : Memref sig .tc .vmem S1x96x4608 .fp8e4m3) (harg2 : arg2.IsWhole)
  (arg3 : Memref sig .tc .vmem S1x96x4608 .fp8e4m3) (harg3 : arg3.IsWhole)
  (arg4 : Memref sig .tc .vmem S1x1x4608 .f32) (harg4 : arg4.IsWhole)
  (arg5 : Memref sig .tc .vmem S1x1x4608 .f32) (harg5 : arg5.IsWhole)
  (arg6 : Memref sig .tc .vmem S1x2304x128 .f32) (harg6 : arg6.IsWhole)
  (arg7 : Memref sig .tc .vmem S4608x128 .bf16) (harg7 : arg7.IsWhole)
  (arg8 : Memref sig .tc .vmem S96x4608 .bf16) (harg8 : arg8.IsWhole)
  (arg9 : Memref sig .tc .vmem S4608x256 .f32) (harg9 : arg9.IsWhole)
  (arg10 : Memref sig .tc .vmem S4608x256 .f32) (harg10 : arg10.IsWhole)
  (arg11 : Memref sig .tc .vmem S8x256 .f32) (harg11 : arg11.IsWhole)
  (arg12 : Memref sig .tc .vmem S8x256 .f32) (harg12 : arg12.IsWhole)
  (arg0 : BitVec 32) (col : Fin 2304 → Col)
  (x1 : Buf (Elt Ideal) (arg1.view.loc (c : Thread nD τ))) (x7 : Buf (Elt Ideal) (arg7.view.loc (c : Thread nD τ))) (x8 : Buf (Elt Ideal) (arg8.view.loc (c : Thread nD τ)))

/-- Before trip `k`: the scores and maxima of tile `k` lie in the pair of buffers of `k`'s parity, and the rows before it are done. -/
abbrev Inv (k : ℕ) : sProp 𝕄 :=
  iprop(holds c arg1 x1 ∗ holds c arg7 x7 ∗ holds c arg8 x8
    ∗ (∃ f9 f10 f11 f12 f6, ⌜(k % 2 = 0 → Scored c col arg9 arg11 k f9 f11) ∧ (¬ k % 2 = 0 → Scored c col arg10 arg12 k f10 f12) ∧ Done c col arg0 arg6 k f6⌝
      ∗ holds c arg9 f9 ∗ holds c arg10 f10 ∗ holds c arg11 f11 ∗ holds c arg12 f12 ∗ holds c arg6 f6))

set_option maxHeartbeats 4000000 in
/-- A trip keeps the invariant. -/
theorem inv_step (H : Cols c col arg1 arg7 arg8 x1 x7 x8) (v468 : FVec Ideal S128x256 .bf16) (v605 : FVec Ideal S8x256 .f32) (v606 : Vec Ideal S256x128 .bf16) (cst_397 : FVec Ideal S256x256 .f32)
    (k : Fin k0_t1_loop.trips) (acc : PUnit) :
    Inv c arg1 arg6 arg7 arg8 arg9 arg10 arg11 arg12 arg0 col x1 x7 x8 k.val
      ⊢ wp frame (wpE (defs₀ (F := Ideal)) Variants.none c none) Set.univ
            (k0_t1_body i arg1 harg1 arg2 harg2 arg3 harg3 arg4 harg4 arg5 harg5 arg6 harg6 arg7 harg7 arg8 harg8 arg9 harg9 arg10 harg10 arg11 harg11 arg12 harg12 arg0 v468 v605 v606 cst_397 k acc)
          (fun _ => Inv c arg1 arg6 arg7 arg8 arg9 arg10 arg11 arg12 arg0 col x1 x7 x8 (k.val + 1)) := by
  unfold Inv
  iintro ⟨H1, H7, H8, %f9, %f10, %f11, %f12, %f6, %e, H9, H10, H11, H12, H6⟩
  obtain ⟨eE, eO, eD⟩ := e
  by_cases hk : k.val % 2 = 0
  · have h1 : k0_cond1 k = 1#1 := (cond1_iff k).2 hk
    have h2 : ¬ k0_cond2 k = 1#1 := fun h => (cond2_iff k).1 h hk
    have S := scored_step c col H (k0_off1 k) (k.val + 1) (off1_eq k) (facts₀.k0_off1_inb k h1) arg10 arg12 f10 f12
    have D := done_step c col H arg0 (k0_off2 k) k.val (off2_eq k) (facts₀.k0_off2_inb k h1) arg9 arg11 arg6 f9 f11 f6 (eE hk) eD
    iapply (wp_wand_r Idealize.ShloMosaic.frame (wpE (defs₀ (F := Ideal)) Variants.none (c : Thread nD τ) none) Set.univ)
    isplitl [H1 H7 H8 H9 H10 H11 H12 H6]
    · iapply (tripEven_run (F := Ideal) c i arg1 harg1 arg2 harg2 arg3 harg3 arg4 harg4 arg5 harg5 arg6 harg6 arg7 harg7 arg8 harg8 arg9 harg9 arg10 harg10 arg11 harg11 arg12 harg12 arg0 v468 v605 v606 cst_397 k h1 h2 x1 x7 x8 f9 f11 f6 f10 f12)
      isplitl [H1]; · iexact H1
      isplitl [H7]; · iexact H7
      isplitl [H8]; · iexact H8
      isplitl [H9]; · iexact H9
      isplitl [H11]; · iexact H11
      isplitl [H6]; · iexact H6
      isplitl [H10]; · iexact H10
      iexact H12
    · iintro %_ ⟨H1, H7, H8, H9, H11, H6, H10, H12⟩
      isplitl [H1]; · iexact H1
      isplitl [H7]; · iexact H7
      isplitl [H8]; · iexact H8
      iexists _; iexists _; iexists _; iexists _; iexists _
      isplitr
      rotate_left
      · isplitl [H9]; · iexact H9
        isplitl [H10]; · iexact H10
        isplitl [H11]; · iexact H11
        isplitl [H12]; · iexact H12
        iexact H6
      · ipureintro; exact ⟨fun h => absurd h (by omega), fun _ => S, D⟩
  · have h1 : ¬ k0_cond1 k = 1#1 := fun h => hk ((cond1_iff k).1 h)
    have h2 : k0_cond2 k = 1#1 := (cond2_iff k).2 hk
    have S := scored_step c col H (k0_off3 k) (k.val + 1) (off3_eq k) (facts₀.k0_off3_inb k h2) arg9 arg11 f9 f11
    have D := done_step c col H arg0 (k0_off4 k) k.val (off4_eq k) (facts₀.k0_off4_inb k h2) arg10 arg12 arg6 f10 f12 f6 (eO hk) eD
    iapply (wp_wand_r Idealize.ShloMosaic.frame (wpE (defs₀ (F := Ideal)) Variants.none (c : Thread nD τ) none) Set.univ)
    isplitl [H1 H7 H8 H9 H10 H11 H12 H6]
    · iapply (tripOdd_run (F := Ideal) c i arg1 harg1 arg2 harg2 arg3 harg3 arg4 harg4 arg5 harg5 arg6 harg6 arg7 harg7 arg8 harg8 arg9 harg9 arg10 harg10 arg11 harg11 arg12 harg12 arg0 v468 v605 v606 cst_397 k h1 h2 x1 x7 x8 f10 f12 f6 f9 f11)
      isplitl [H1]; · iexact H1
      isplitl [H7]; · iexact H7
      isplitl [H8]; · iexact H8
      isplitl [H10]; · iexact H10
      isplitl [H12]; · iexact H12
      isplitl [H6]; · iexact H6
      isplitl [H9]; · iexact H9
      iexact H11
    · iintro %_ ⟨H1, H7, H8, H10, H12, H6, H9, H11⟩
      isplitl [H1]; · iexact H1
      isplitl [H7]; · iexact H7
      isplitl [H8]; · iexact H8
      iexists _; iexists _; iexists _; iexists _; iexists _
      isplitr
      rotate_left
      · isplitl [H9]; · iexact H9
        isplitl [H10]; · iexact H10
        isplitl [H11]; · iexact H11
        isplitl [H12]; · iexact H12
        iexact H6
      · ipureintro; exact ⟨fun _ => S, fun h => absurd h (by omega), D⟩

end Cert.KernelIdeal.Gen

end
-- ==== Proof.Prefix.LoopRule.lean ====
/- The loop rule at the invariant. -/
module

public import proofs.«01_k».proof.Proof.Prefix.Loop

@[expose] public section

set_option maxRecDepth 65536

noncomputable section

namespace Cert.KernelIdeal.Gen

open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable
  (c : Dev nD) (i : grid0.Coords)
  (arg1 : Memref sig .tc .vmem S1x128x2304 .bf16) (harg1 : arg1.IsWhole)
  (arg2 : Memref sig .tc .vmem S1x96x4608 .fp8e4m3) (harg2 : arg2.IsWhole)
  (arg3 : Memref sig .tc .vmem S1x96x4608 .fp8e4m3) (harg3 : arg3.IsWhole)
  (arg4 : Memref sig .tc .vmem S1x1x4608 .f32) (harg4 : arg4.IsWhole)
  (arg5 : Memref sig .tc .vmem S1x1x4608 .f32) (harg5 : arg5.IsWhole)
  (arg6 : Memref sig .tc .vmem S1x2304x128 .f32) (harg6 : arg6.IsWhole)
  (arg7 : Memref sig .tc .vmem S4608x128 .bf16) (harg7 : arg7.IsWhole)
  (arg8 : Memref sig .tc .vmem S96x4608 .bf16) (harg8 : arg8.IsWhole)
  (arg9 : Memref sig .tc .vmem S4608x256 .f32) (harg9 : arg9.IsWhole)
  (arg10 : Memref sig .tc .vmem S4608x256 .f32) (harg10 : arg10.IsWhole)
  (arg11 : Memref sig .tc .vmem S8x256 .f32) (harg11 : arg11.IsWhole)
  (arg12 : Memref sig .tc .vmem S8x256 .f32) (harg12 : arg12.IsWhole)
  (arg0 : BitVec 32) (col : Fin 2304 → Col)
  (x1 : Buf (Elt Ideal) (arg1.view.loc (c : Thread nD τ))) (x7 : Buf (Elt Ideal) (arg7.view.loc (c : Thread nD τ))) (x8 : Buf (Elt Ideal) (arg8.view.loc (c : Thread nD τ)))

/-- The loop before the rest of the body: from the invariant before the first trip, the rest runs from the invariant after the eighth. -/
theorem loop_rule (H : Cols c col arg1 arg7 arg8 x1 x7 x8) (v468 : FVec Ideal S128x256 .bf16) (v605 : FVec Ideal S8x256 .f32) (v606 : Vec Ideal S256x128 .bf16) (cst_397 : FVec Ideal S256x256 .f32)
    (n : ℕ) (hn : n = k0_t1_loop.trips) {β : Type} {kk : PUnit → Prog (TpuEff nD τ sig (Elt Ideal) Λ₀ .tc) β} {Q : β → sProp 𝕄} :
    iprop(Inv c arg1 arg6 arg7 arg8 arg9 arg10 arg11 arg12 arg0 col x1 x7 x8 0
        ∗ (∀ acc, Inv c arg1 arg6 arg7 arg8 arg9 arg10 arg11 arg12 arg0 col x1 x7 x8 n -∗ wp frame (wpE (defs₀ (F := Ideal)) Variants.none c none) Set.univ (kk acc) Q))
      ⊢ wp frame (wpE (defs₀ (F := Ideal)) Variants.none c none) Set.univ
          (k0_t1_loop.for k0_t1_ok PUnit.unit (k0_t1_body i arg1 harg1 arg2 harg2 arg3 harg3 arg4 harg4 arg5 harg5 arg6 harg6 arg7 harg7 arg8 harg8 arg9 harg9 arg10 harg10 arg11 harg11 arg12 harg12 arg0 v468 v605 v606 cst_397) >>= kk) Q := by
  subst hn
  exact BIClass.wand_elim (Scf.wp_for_bind Idealize.ShloMosaic.frame (wpE (defs₀ (F := Ideal)) Variants.none (c : Thread nD τ) none) Set.univ
    k0_t1_loop.lb k0_t1_loop.ub k0_t1_loop.st k0_t1_ok PUnit.unit _
    (fun k _ => Inv c arg1 arg6 arg7 arg8 arg9 arg10 arg11 arg12 arg0 col x1 x7 x8 k)
    (fun k acc => inv_step c i arg1 harg1 arg2 harg2 arg3 harg3 arg4 harg4 arg5 harg5 arg6 harg6 arg7 harg7 arg8 harg8 arg9 harg9 arg10 harg10 arg11 harg11 arg12 harg12 arg0 col x1 x7 x8 H v468 v605 v606 cst_397 k acc))

end Cert.KernelIdeal.Gen

end
-- ==== Proof.Prefix.Keys.lean ====
/- The keys and values as the body prepares them: scaled, and masked past the last key. -/
module

public import proofs.«01_k».proof.Proof.Prefix.Step

@[expose] public section

set_option maxRecDepth 65536

noncomputable section

namespace Cert.KernelIdeal.Gen

open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem

variable (c : Dev nD)

/-- A tile of keys lies within the codes. -/
theorem inbC (t : Fin 18) : ∀ a, (![0, 0, 256 * t.val] : Fin 3 → ℕ) a + S1x96x256.size a ≤ S1x96x4608.size a := by
  intro a; have := t.isLt; fin_cases a <;> simp [Shape.size] <;> omega

/-- A tile of keys lies within the scales. -/
theorem inbS (t : Fin 18) : ∀ a, (![0, 0, 256 * t.val] : Fin 3 → ℕ) a + S1x1x256.size a ≤ S1x1x4608.size a := by
  intro a; have := t.isLt; fin_cases a <;> simp [Shape.size] <;> omega

section
variable {F : FTy → Type} [FloatOps F] [Named F]

/-- The codes of one tile. -/
abbrev ldC (b : Memref sig .tc .vmem S1x96x4608 .fp8e4m3) (x : Buf (Elt F) (b.view.loc (c : Thread nD τ))) (t : Fin 18) : Vec F S1x96x256 .fp8e4m3 :=
  View.readAt (Elt F) b.view (Rect.unit (s := S1x96x4608) ![0, 0, 256 * t.val] S1x96x256.size (inbC t)).toLoadRect x

/-- The scales of one tile. -/
abbrev ldS (b : Memref sig .tc .vmem S1x1x4608 .f32) (x : Buf (Elt F) (b.view.loc (c : Thread nD τ))) (t : Fin 18) : Vec F S1x1x256 .f32 :=
  View.readAt (Elt F) b.view (Rect.unit (s := S1x1x4608) ![0, 0, 256 * t.val] S1x1x256.size (inbS t)).toLoadRect x

/-- A tile of the key buffer. -/
def keyT (k : Fin 18 → Vec F S1x96x256 .fp8e4m3) (s : Fin 18 → Vec F S1x1x256 .f32) (t : Fin 18) : FVec F S256x128 .bf16 :=
  if t.val = 17 then k0_pay239 (k0_pay236 (k t) (s t)) k0_pay238 (Scalar.ofBits .f32 0x00000000#32) else k0_pay186 (k t) (s t)

/-- A tile of the value buffer. -/
def valT (k : Fin 18 → Vec F S1x96x256 .fp8e4m3) (s : Fin 18 → Vec F S1x1x256 .f32) (t : Fin 18) : FVec F S96x256 .bf16 :=
  if t.val = 17 then k0_pay240 (k0_pay237 (k t) (s t)) k0_pay238 else k0_pay187 (k t) (s t)

/-- The pieces written to the key buffer. -/
def keyPieces (W : Fin 18 → FVec F S256x128 .bf16) : List (View.Piece (Elt F) S4608x128 .bf16) :=
  tiles.reverse.map fun t => ⟨Rect.unit (s := S4608x128) ![256 * t.val, 0] S256x128.size (inbK t), W t⟩

/-- The pieces written to the value buffer. -/
def valPieces (W : Fin 18 → FVec F S96x256 .bf16) : List (View.Piece (Elt F) S96x4608 .bf16) :=
  tiles.reverse.map fun t => ⟨Rect.unit (s := S96x4608) ![0, 256 * t.val] S96x256.size (inbV t), W t⟩
end

theorem ldC_at (b : Memref sig .tc .vmem S1x96x4608 .fp8e4m3) (x : Buf (Elt Ideal) (b.view.loc (c : Thread nD τ))) (t : Fin 18) (d : Fin 96) (r : Fin 256) :
    ldC c b x t (ix3 0 d r) = b.view.read (Elt Ideal) x (ix3 0 d (key t r)) := by
  unfold ldC
  rw [View.readAt_unit b.view x _ rfl (inbC t)]
  refine congrArg (b.view.read (Elt Ideal) x) (funext fun a => Fin.ext ?_)
  fin_cases a
  · rfl
  · show 0 + 1 * d.val = d.val; omega
  · show 256 * t.val + 1 * r.val = 256 * t.val + r.val; omega

theorem ldS_at (b : Memref sig .tc .vmem S1x1x4608 .f32) (x : Buf (Elt Ideal) (b.view.loc (c : Thread nD τ))) (t : Fin 18) (r : Fin 256) :
    ldS c b x t (ix3 0 0 r) = b.view.read (Elt Ideal) x (ix3 0 0 (key t r)) := by
  unfold ldS
  rw [View.readAt_unit b.view x _ rfl (inbS t)]
  refine congrArg (b.view.read (Elt Ideal) x) (funext fun a => Fin.ext ?_)
  fin_cases a
  · rfl
  · rfl
  · show 256 * t.val + 1 * r.val = 256 * t.val + r.val; omega

theorem keys_read (b : Memref sig .tc .vmem S4608x128 .bf16) (f : Buf (Elt Ideal) (b.view.loc (c : Thread nD τ))) (W : Fin 18 → FVec Ideal S256x128 .bf16) (t : Fin 18) (r : Fin 256) (d : Fin 128) :
    b.view.read (Elt Ideal) (b.view.writes (Elt Ideal) f (keyPieces W)) (ix2 (key t r) d) = W t (ix2 r d) := by
  unfold keyPieces
  have ht : t ∈ tiles.reverse := by revert t; decide
  generalize tiles.reverse = L at ht ⊢
  induction L with
  | nil => simp at ht
  | cons u L ih =>
    rw [List.map_cons]
    by_cases hu : u = t
    · subst hu
      refine View.read_writes_cons_unit_of_mem b.view f (inbK u) _ _ (ix2 (key u r) d) (ix2 r d) rfl (fun a => ?_)
      fin_cases a
      · rfl
      · show d.val = 0 + d.val; omega
    · refine (View.read_writes_cons_unit_of_not_mem b.view f (inbK u) _ _ (ix2 (key t r) d) rfl 0 ?_).trans
        (ih ((List.mem_cons.1 ht).resolve_left fun e => hu e.symm))
      have : u.val ≠ t.val := fun e => hu (Fin.ext e)
      show 256 * t.val + r.val < 256 * u.val ∨ 256 * u.val + 256 ≤ 256 * t.val + r.val
      omega

theorem vals_read (b : Memref sig .tc .vmem S96x4608 .bf16) (f : Buf (Elt Ideal) (b.view.loc (c : Thread nD τ))) (W : Fin 18 → FVec Ideal S96x256 .bf16) (t : Fin 18) (r : Fin 256) (d : Fin 96) :
    b.view.read (Elt Ideal) (b.view.writes (Elt Ideal) f (valPieces W)) (ix2 d (key t r)) = W t (ix2 d r) := by
  unfold valPieces
  have ht : t ∈ tiles.reverse := by revert t; decide
  generalize tiles.reverse = L at ht ⊢
  induction L with
  | nil => simp at ht
  | cons u L ih =>
    rw [List.map_cons]
    by_cases hu : u = t
    · subst hu
      refine View.read_writes_cons_unit_of_mem b.view f (inbV u) _ _ (ix2 d (key u r)) (ix2 d r) rfl (fun a => ?_)
      fin_cases a
      · show d.val = 0 + d.val; omega
      · rfl
    · refine (View.read_writes_cons_unit_of_not_mem b.view f (inbV u) _ _ (ix2 d (key t r)) rfl 1 ?_).trans
        (ih ((List.mem_cons.1 ht).resolve_left fun e => hu e.symm))
      have : u.val ≠ t.val := fun e => hu (Fin.ext e)
      show 256 * t.val + r.val < 256 * u.val ∨ 256 * u.val + 256 ≤ 256 * t.val + r.val
      omega

theorem slt148 : ∀ r : Fin 256, IntOp.cmpi .slt (BitVec.ofNat 32 r.val) 148#32 = if r.val < 148 then 1#1 else 0#1 := by decide

theorem select_ite {α : Type} (p : Prop) [Decidable p] (a b : α) : Scalar.select (if p then 1#1 else 0#1) a b = if p then a else b := by
  split <;> rfl

/-- A key's place `d` in the key buffer. -/
def keyAt (X : Fin 96 → Fin 4608 → EReal) (S : Fin 4608 → EReal) (k : Fin 4608) (d : Fin 128) : EReal :=
  if h : d.val < 96 then (if k.val < 4500 then X ⟨d.val, h⟩ k * S k else 0) else (if k.val < 4500 then 0 else ⊥)

theorem keyT_at (k : Fin 18 → Vec Ideal S1x96x256 .fp8e4m3) (s : Fin 18 → Vec Ideal S1x1x256 .f32) (X : Fin 96 → Fin 4608 → EReal) (S : Fin 4608 → EReal)
    (hX : ∀ t d r, k t (ix3 0 d r) = X d (key t r)) (hS : ∀ t r, s t (ix3 0 0 r) = S (key t r)) (t : Fin 18) (r : Fin 256) (d : Fin 128) :
    keyT k s t (ix2 r d) = keyAt X S (key t r) d := by
  unfold keyT keyAt
  by_cases ht : t.val = 17
  · rw [if_pos ht]
    have hk : (key t r).val < 4500 ↔ r.val < 148 := by simp only [key]; omega
    simp only [hk]
    pointwise [k0_pay239, k0_pay236, k0_pay238]
    simp only [slt148, select_ite, hX, hS]
    split <;> rename_i h <;> split <;> rename_i h' <;> first | rfl | exact masked_bot | trace_state
  · rw [if_neg ht]
    have hk : (key t r).val < 4500 := by have := t.isLt; simp only [key]; omega
    simp only [hk, if_true]
    pointwise [k0_pay186]
    simp only [hX, hS]

theorem valT_at (k : Fin 18 → Vec Ideal S1x96x256 .fp8e4m3) (s : Fin 18 → Vec Ideal S1x1x256 .f32) (X : Fin 96 → Fin 4608 → EReal) (S : Fin 4608 → EReal)
    (hX : ∀ t d r, k t (ix3 0 d r) = X d (key t r)) (hS : ∀ t r, s t (ix3 0 0 r) = S (key t r)) (t : Fin 18) (r : Fin 256) (d : Fin 96) :
    valT k s t (ix2 d r) = if (key t r).val < 4500 then X d (key t r) * S (key t r) else 0 := by
  unfold valT
  by_cases ht : t.val = 17
  · rw [if_pos ht]
    have hk : (key t r).val < 4500 ↔ r.val < 148 := by simp only [key]; omega
    simp only [hk]
    pointwise [k0_pay240, k0_pay237, k0_pay238]
    simp only [slt148, select_ite, hX, hS]
  · rw [if_neg ht]
    have hk : (key t r).val < 4500 := by have := t.isLt; simp only [key]; omega
    simp only [hk, if_true]
    pointwise [k0_pay187]
    simp only [hX, hS]

/-- A query's column from what the five input buffers hold. -/
def colOf (X1 : Fin 128 → Fin 2304 → EReal) (X2 X3 : Fin 96 → Fin 4608 → EReal) (X4 X5 : Fin 4608 → EReal) (j : Fin 2304) : Col where
  s k := ∑ d : Fin 128, keyAt X2 X4 k d * X1 d j
  v d k := if k.val < 4500 then X3 d k * X5 k else 0

/-- The prepared keys and values make the columns. -/
theorem cols_of {arg1 : Memref sig .tc .vmem S1x128x2304 .bf16} {arg7 : Memref sig .tc .vmem S4608x128 .bf16} {arg8 : Memref sig .tc .vmem S96x4608 .bf16}
    {arg2 arg3 : Memref sig .tc .vmem S1x96x4608 .fp8e4m3} {arg4 arg5 : Memref sig .tc .vmem S1x1x4608 .f32}
    (x1 : Buf (Elt Ideal) (arg1.view.loc (c : Thread nD τ))) (x2 : Buf (Elt Ideal) (arg2.view.loc (c : Thread nD τ))) (x3 : Buf (Elt Ideal) (arg3.view.loc (c : Thread nD τ)))
    (x4 : Buf (Elt Ideal) (arg4.view.loc (c : Thread nD τ))) (x5 : Buf (Elt Ideal) (arg5.view.loc (c : Thread nD τ)))
    (f7 : Buf (Elt Ideal) (arg7.view.loc (c : Thread nD τ))) (f8 : Buf (Elt Ideal) (arg8.view.loc (c : Thread nD τ))) :
    Cols c (colOf (fun d j => arg1.view.read (Elt Ideal) x1 (ix3 0 d j)) (fun d k => arg2.view.read (Elt Ideal) x2 (ix3 0 d k)) (fun d k => arg3.view.read (Elt Ideal) x3 (ix3 0 d k))
        (fun k => arg4.view.read (Elt Ideal) x4 (ix3 0 0 k)) (fun k => arg5.view.read (Elt Ideal) x5 (ix3 0 0 k)))
      arg1 arg7 arg8 x1 (arg7.view.writes (Elt Ideal) f7 (keyPieces (keyT (ldC c arg2 x2) (ldS c arg4 x4))))
      (arg8.view.writes (Elt Ideal) f8 (valPieces (valT (ldC c arg3 x3) (ldS c arg5 x5)))) where
  s j k := by
    rw [key_split k]
    dsimp only [colOf]
    refine Finset.sum_congr rfl fun d _ => ?_
    rw [keys_read]
    exact congrArg (fun z : EReal => z * _) (keyT_at _ _ (fun d k => arg2.view.read (Elt Ideal) x2 (ix3 0 d k)) (fun k => arg4.view.read (Elt Ideal) x4 (ix3 0 0 k))
      (fun t d r => ldC_at c arg2 x2 t d r) (fun t r => ldS_at c arg4 x4 t r) _ _ _)
  v j d k := by
    rw [key_split k, vals_read]
    exact valT_at _ _ (fun d k => arg3.view.read (Elt Ideal) x3 (ix3 0 d k)) (fun k => arg5.view.read (Elt Ideal) x5 (ix3 0 0 k))
      (fun t d r => ldC_at c arg3 x3 t d r) (fun t r => ldS_at c arg5 x5 t r) _ _ _

end Cert.KernelIdeal.Gen

end
-- ==== Proof.Prefix.BodyVal.lean ====
/- The whole body over the extended reals: every row of the result's block is its query's column read out. -/
module

public import proofs.«01_k».proof.Proof.Prefix.LoopRule
public import proofs.«01_k».proof.Proof.Prefix.Keys

@[expose] public section

set_option maxRecDepth 65536

noncomputable section

namespace Cert.KernelIdeal.Gen

open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The columns of the queries, from what the five input buffers hold. -/
abbrev bodyCol (c : Dev nD)
  (arg1 : Memref sig .tc .vmem S1x128x2304 .bf16) (arg2 : Memref sig .tc .vmem S1x96x4608 .fp8e4m3) (arg3 : Memref sig .tc .vmem S1x96x4608 .fp8e4m3)
  (arg4 : Memref sig .tc .vmem S1x1x4608 .f32) (arg5 : Memref sig .tc .vmem S1x1x4608 .f32)
  (x1 : Buf (Elt Ideal) (arg1.view.loc (c : Thread nD τ))) (x2 : Buf (Elt Ideal) (arg2.view.loc (c : Thread nD τ)))
  (x3 : Buf (Elt Ideal) (arg3.view.loc (c : Thread nD τ))) (x4 : Buf (Elt Ideal) (arg4.view.loc (c : Thread nD τ)))
  (x5 : Buf (Elt Ideal) (arg5.view.loc (c : Thread nD τ))) : Fin 2304 → Col :=
  colOf (fun d j => arg1.view.read (Elt Ideal) x1 (ix3 0 d j)) (fun d k => arg2.view.read (Elt Ideal) x2 (ix3 0 d k)) (fun d k => arg3.view.read (Elt Ideal) x3 (ix3 0 d k))
        (fun k => arg4.view.read (Elt Ideal) x4 (ix3 0 0 k)) (fun k => arg5.view.read (Elt Ideal) x5 (ix3 0 0 k))

set_option maxHeartbeats 8000000 in
/-- The body on whole buffers: the five inputs keep what they hold, the result's block holds every query's row. -/
theorem bodyVal
  (c : Dev nD) (i : grid0.Coords)
  (arg1 : Memref sig .tc .vmem S1x128x2304 .bf16) (harg1 : arg1.IsWhole)
  (arg2 : Memref sig .tc .vmem S1x96x4608 .fp8e4m3) (harg2 : arg2.IsWhole)
  (arg3 : Memref sig .tc .vmem S1x96x4608 .fp8e4m3) (harg3 : arg3.IsWhole)
  (arg4 : Memref sig .tc .vmem S1x1x4608 .f32) (harg4 : arg4.IsWhole)
  (arg5 : Memref sig .tc .vmem S1x1x4608 .f32) (harg5 : arg5.IsWhole)
  (arg6 : Memref sig .tc .vmem S1x2304x128 .f32) (harg6 : arg6.IsWhole)
  (arg7 : Memref sig .tc .vmem S4608x128 .bf16) (harg7 : arg7.IsWhole)
  (arg8 : Memref sig .tc .vmem S96x4608 .bf16) (harg8 : arg8.IsWhole)
  (arg9 : Memref sig .tc .vmem S4608x256 .f32) (harg9 : arg9.IsWhole)
  (arg10 : Memref sig .tc .vmem S4608x256 .f32) (harg10 : arg10.IsWhole)
  (arg11 : Memref sig .tc .vmem S8x256 .f32) (harg11 : arg11.IsWhole)
  (arg12 : Memref sig .tc .vmem S8x256 .f32) (harg12 : arg12.IsWhole)
  (x1 : Buf (Elt Ideal) (arg1.view.loc (c : Thread nD τ))) (x2 : Buf (Elt Ideal) (arg2.view.loc (c : Thread nD τ)))
  (x3 : Buf (Elt Ideal) (arg3.view.loc (c : Thread nD τ))) (x4 : Buf (Elt Ideal) (arg4.view.loc (c : Thread nD τ)))
  (x5 : Buf (Elt Ideal) (arg5.view.loc (c : Thread nD τ))) :
    iprop(holds c arg1 x1 ∗ holds c arg2 x2 ∗ holds c arg3 x3 ∗ holds c arg4 x4 ∗ holds c arg5 x5
        ∗ (∃ f, holds c arg6 f) ∗ (∃ f, holds c arg7 f) ∗ (∃ f, holds c arg8 f) ∗ (∃ f, holds c arg9 f) ∗ (∃ f, holds c arg10 f)
        ∗ (∃ f, holds c arg11 f) ∗ (∃ f, holds c arg12 f))
      ⊢ wp frame (wpE (defs₀ (F := Ideal)) Variants.none c none) Set.univ
          (cc0_prefix i arg1 harg1 arg2 harg2 arg3 harg3 arg4 harg4 arg5 harg5 arg6 harg6 arg7 harg7 arg8 harg8 arg9 harg9 arg10 harg10 arg11 harg11 arg12 harg12)
          (fun _ => iprop(holds c arg1 x1 ∗ holds c arg2 x2 ∗ holds c arg3 x3 ∗ holds c arg4 x4 ∗ holds c arg5 x5
        ∗ (∃ f, ⌜Done c (bodyCol c arg1 arg2 arg3 arg4 arg5 x1 x2 x3 x4 x5) (BitVec.ofNat 32 (i 0).val) arg6 9 f⌝ ∗ holds c arg6 f)
        ∗ (∃ f, holds c arg7 f) ∗ (∃ f, holds c arg8 f) ∗ (∃ f, holds c arg9 f) ∗ (∃ f, holds c arg10 f)
        ∗ (∃ f, holds c arg11 f) ∗ (∃ f, holds c arg12 f))) := by
  unfold holds
  simp only [cc0_prefix_eq_skeleton]; unfold cc0_prefix_skel
  iintro ⟨H1, H2, H3, H4, H5, ⟨%f6, H6⟩, ⟨%f7, H7⟩, ⟨%f8, H8⟩, ⟨%f9, H9⟩, ⟨%f10, H10⟩, ⟨%f11, H11⟩, ⟨%f12, H12⟩⟩
  sl_exec
  have HC := cols_of c (arg1 := arg1) (arg7 := arg7) (arg8 := arg8) x1 x2 x3 x4 x5 arg7.view.junk arg8.view.junk
  have HS := scored_step c _ HC ![0, 0, 0] 0 rfl inb_S1x128x2304_S1x128x256_0_0_0 arg9 arg11 arg9.view.junk arg11.view.junk
  iapply (loop_rule c i arg1 harg1 arg2 harg2 arg3 harg3 arg4 harg4 arg5 harg5 arg6 harg6 arg7 harg7 arg8 harg8 arg9 harg9 arg10 harg10 arg11 harg11 arg12 harg12 _ _ _ _ _ HC _ _ _ _ 8 (by decide))
  isplitl [H1 H6 H7 H8 H9 H10 H11 H12]
  · isplitl [H1]; · iexact H1
    isplitl [H7]; · iexact H7
    isplitl [H8]; · iexact H8
    iexists _; iexists _; iexists _; iexists _; iexists _
    isplitr
    rotate_left
    · isplitl [H9]; · iexact H9
      isplitl [H10]; · iexact H10
      isplitl [H11]; · iexact H11
      isplitl [H12]; · iexact H12
      iexact H6
    · ipureintro; exact ⟨fun _ => HS, fun h => absurd rfl h, fun j hj => absurd hj (Nat.not_lt_zero _)⟩
  · iintro %_ ⟨H1, H7, H8, %g9, %g10, %g11, %g12, %g6, %e, H9, H10, H11, H12, H6⟩
    obtain ⟨eE, eO, eD⟩ := e
    sl_exec
    sl_step
    isplitl [H1]; · iexact H1
    isplitl [H2]; · iexact H2
    isplitl [H3]; · iexact H3
    isplitl [H4]; · iexact H4
    isplitl [H5]; · iexact H5
    isplitl [H6]
    · iexists _
      isplitr
      rotate_left
      · iexact H6
      · ipureintro
        exact done_step c _ HC (BitVec.ofNat 32 (i 0).val) ![0, 2048, 0] 8 rfl inb_S1x2304x128_S1x256x128_0_2048_0 arg9 arg11 arg6 g9 g11 g6 (eE rfl) eD
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.KernelIdeal.Gen

end
-- ==== Proof.Prefix.FrameVal.lean ====
/- The frame of `KernelIdeal` with its value: the result's block at a point is every query's row, read off that head's
   queries, keys, values and scales. -/
module

public import proofs.«01_k».proof.Proof.Prefix.BodyVal

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pointwise
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The columns of the queries of the head at point `t`. -/
def vcol (c : Dev nD) (t : Fin cfg0.N) : Fin 2304 → Col :=
  colOf (fun d j => (iblk m c 0 t : S1x128x2304.Idx → Elt Ideal .bf16) (ix3 0 d j))
    (fun d k => ((cfg0.win 1).fill (grid0.coords t) (fun _ => Scalar.ofBits (F := Ideal) .fp8e4m3 0#8) (iblk m c 1 t) : S1x96x4608.Idx → Elt Ideal .fp8e4m3) (ix3 0 d k))
    (fun d k => ((cfg0.win 2).fill (grid0.coords t) (fun _ => Scalar.ofBits (F := Ideal) .fp8e4m3 0#8) (iblk m c 2 t) : S1x96x4608.Idx → Elt Ideal .fp8e4m3) (ix3 0 d k))
    (fun k => ((cfg0.win 3).fill (grid0.coords t) (fun _ => Scalar.ofBits (F := Ideal) .f32 0#32) (iblk m c 3 t) : S1x1x4608.Idx → Elt Ideal .f32) (ix3 0 0 k))
    (fun k => ((cfg0.win 4).fill (grid0.coords t) (fun _ => Scalar.ofBits (F := Ideal) .f32 0#32) (iblk m c 4 t) : S1x1x4608.Idx → Elt Ideal .f32) (ix3 0 0 k))

/-- The result's block at point `t`. -/
def vblock (c : Dev nD) (t : Fin cfg0.N) : S1x2304x128.Idx → EReal :=
  fun y => (vcol m c t (y 1)).out (BitVec.ofNat 32 (grid0.coords t 0).val) (y 2)

/-- The proof data: the arrays as the region finds them; after the body each input's buffer at its block, filled out
    past the array's end with a word nothing reads. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => (cfg0.win 1).fill (grid0.coords t) (fun _ => Scalar.ofBits (F := Ideal) .fp8e4m3 0#8) (iblk m c 1 t)
    | ⟨2, _⟩ => (cfg0.win 2).fill (grid0.coords t) (fun _ => Scalar.ofBits (F := Ideal) .fp8e4m3 0#8) (iblk m c 2 t)
    | ⟨3, _⟩ => (cfg0.win 3).fill (grid0.coords t) (fun _ => Scalar.ofBits (F := Ideal) .f32 0#32) (iblk m c 3 t)
    | ⟨4, _⟩ => (cfg0.win 4).fill (grid0.coords t) (fun _ => Scalar.ofBits (F := Ideal) .f32 0#32) (iblk m c 4 t)
    | ⟨5, h⟩ => vblock m c t
  Φ _ := Pipeline.ΦA spec0 c
  q _ := fullShare
  owed _ := 0

theorem vA_eq (c : Dev nD) (w : Fin cfg0.W) : (vdats m 0 c).A w = V m c (Pipeline.arrRef spec0 w) := by dsimp only [vdats]
theorem vafter0 (c : Dev nD) (t : Fin cfg0.N) : (vdats m 0 c).after 0 t = iblk m c 0 t := by dsimp only [vdats]
theorem vbefore0 (c : Dev nD) (t : Fin cfg0.N) (d) : (vdats m 0 c).before 0 t d = iblk m c 0 t :=
  before0_0_of m (vdats m 0 c) (vA_eq m c 0) (vafter0 m c) t d
/-- Window 1 is fetched at every point: its buffer holds the block on the part inside the array. -/
theorem vbefore1 (c : Dev nD) (t : Fin cfg0.N) (d) :
    (vdats m 0 c).before 1 t d = (cfg0.win 1).fill (grid0.coords t) d (iblk m c 1 t) := by
  unfold Dat.before; rw [if_pos (fetch0_1 t)]; rfl
theorem vcut1 (c : Dev nD) (t : Fin cfg0.N) :
    (cfg0.win 1).cut (grid0.coords t) ((vdats m 0 c).after 1 t) = iblk m c 1 t := (cfg0.win 1).cut_fill _ _ _
/-- Window 2 is fetched at every point: its buffer holds the block on the part inside the array. -/
theorem vbefore2 (c : Dev nD) (t : Fin cfg0.N) (d) :
    (vdats m 0 c).before 2 t d = (cfg0.win 2).fill (grid0.coords t) d (iblk m c 2 t) := by
  unfold Dat.before; rw [if_pos (fetch0_2 t)]; rfl
theorem vcut2 (c : Dev nD) (t : Fin cfg0.N) :
    (cfg0.win 2).cut (grid0.coords t) ((vdats m 0 c).after 2 t) = iblk m c 2 t := (cfg0.win 2).cut_fill _ _ _
/-- Window 3 is fetched at every point: its buffer holds the block on the part inside the array. -/
theorem vbefore3 (c : Dev nD) (t : Fin cfg0.N) (d) :
    (vdats m 0 c).before 3 t d = (cfg0.win 3).fill (grid0.coords t) d (iblk m c 3 t) := by
  unfold Dat.before; rw [if_pos (fetch0_3 t)]; rfl
theorem vcut3 (c : Dev nD) (t : Fin cfg0.N) :
    (cfg0.win 3).cut (grid0.coords t) ((vdats m 0 c).after 3 t) = iblk m c 3 t := (cfg0.win 3).cut_fill _ _ _
/-- Window 4 is fetched at every point: its buffer holds the block on the part inside the array. -/
theorem vbefore4 (c : Dev nD) (t : Fin cfg0.N) (d) :
    (vdats m 0 c).before 4 t d = (cfg0.win 4).fill (grid0.coords t) d (iblk m c 4 t) := by
  unfold Dat.before; rw [if_pos (fetch0_4 t)]; rfl
theorem vcut4 (c : Dev nD) (t : Fin cfg0.N) :
    (cfg0.win 4).cut (grid0.coords t) ((vdats m 0 c).after 4 t) = iblk m c 4 t := (cfg0.win 4).cut_fill _ _ _

/-- The body table's row at point `t`'s slots is the body as `bodyAt0` spells it. -/
theorem vrow (t : Fin cfg0.N) :
    defs₀ (F := Ideal) .tc cfg0.body (cfg0.bodyArgs t (cfg0.slots t)) = bodyAt0 t := by
  unfold defs₀; rw [Defs.onTc_tc]

/-- What the body is called with at point `t`, -/
def vPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d)))

/-- and what it returns. -/
def vPost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ (∃ d, owns (c : Thread nD τ) (st0_1 t) fullShare ((cfg0.win 1).fill (grid0.coords t) d ((cfg0.win 1).cut (grid0.coords t) ((vdats m 0 c).after 1 t))))
    ∗ (∃ d, owns (c : Thread nD τ) (st0_2 t) fullShare ((cfg0.win 2).fill (grid0.coords t) d ((cfg0.win 2).cut (grid0.coords t) ((vdats m 0 c).after 2 t))))
    ∗ (∃ d, owns (c : Thread nD τ) (st0_3 t) fullShare ((cfg0.win 3).fill (grid0.coords t) d ((cfg0.win 3).cut (grid0.coords t) ((vdats m 0 c).after 3 t))))
    ∗ (∃ d, owns (c : Thread nD τ) (st0_4 t) fullShare ((cfg0.win 4).fill (grid0.coords t) d ((cfg0.win 4).cut (grid0.coords t) ((vdats m 0 c).after 4 t))))
    ∗ owns (c : Thread nD τ) (st0_5 t) fullShare (vblock m c t))

set_option maxHeartbeats 4000000 in
/-- What of a clipped block lies inside its array: every head's first 4500 keys. -/
theorem vx1 : ∀ (t : Fin grid0.N) (a : Fin 3), win0_1.xsize (grid0.coords t) a = (![1, 96, 4500] : Fin 3 → ℕ) a := by decide +kernel
theorem vx2 : ∀ (t : Fin grid0.N) (a : Fin 3), win0_2.xsize (grid0.coords t) a = (![1, 96, 4500] : Fin 3 → ℕ) a := by decide +kernel
theorem vx3 : ∀ (t : Fin grid0.N) (a : Fin 3), win0_3.xsize (grid0.coords t) a = (![1, 1, 4500] : Fin 3 → ℕ) a := by decide +kernel
theorem vx4 : ∀ (t : Fin grid0.N) (a : Fin 3), win0_4.xsize (grid0.coords t) a = (![1, 1, 4500] : Fin 3 → ℕ) a := by decide +kernel
theorem vmoved1 (t : Fin cfg0.N) (a : Fin 96) (k : Fin 4608) (hk : k.val < 4500) : (cfg0.win 1).moved (grid0.coords t) (ix3 0 a k : S1x96x4608.Idx) = true := by
  have H : ∀ x : Fin 3, ((ix3 0 a k : S1x96x4608.Idx) x).val < (![1, 96, 4500] : Fin 3 → ℕ) x := fun x => match x with
    | 0 => Nat.one_pos
    | 1 => a.isLt
    | 2 => hk
  exact ((cfg0.win 1).moved_iff _ _).2 (fun x => lt_of_lt_of_eq (H x) (vx1 t x).symm)
/-- A key inside the array is read from the block, whatever fills the rest. -/
theorem vfill1 {α : Type} (t : Fin cfg0.N) (d d' : S1x96x4608.Idx → α) (g) (a : Fin 96) (k : Fin 4608) (hk : k.val < 4500) :
    ((cfg0.win 1).fill (grid0.coords t) d g : S1x96x4608.Idx → α) (ix3 0 a k) = ((cfg0.win 1).fill (grid0.coords t) d' g : S1x96x4608.Idx → α) (ix3 0 a k) := by
  have h := vmoved1 t a k hk
  unfold Window.fill; rw [dif_pos h, dif_pos h]
theorem vmoved2 (t : Fin cfg0.N) (a : Fin 96) (k : Fin 4608) (hk : k.val < 4500) : (cfg0.win 2).moved (grid0.coords t) (ix3 0 a k : S1x96x4608.Idx) = true := by
  have H : ∀ x : Fin 3, ((ix3 0 a k : S1x96x4608.Idx) x).val < (![1, 96, 4500] : Fin 3 → ℕ) x := fun x => match x with
    | 0 => Nat.one_pos
    | 1 => a.isLt
    | 2 => hk
  exact ((cfg0.win 2).moved_iff _ _).2 (fun x => lt_of_lt_of_eq (H x) (vx2 t x).symm)
/-- A key inside the array is read from the block, whatever fills the rest. -/
theorem vfill2 {α : Type} (t : Fin cfg0.N) (d d' : S1x96x4608.Idx → α) (g) (a : Fin 96) (k : Fin 4608) (hk : k.val < 4500) :
    ((cfg0.win 2).fill (grid0.coords t) d g : S1x96x4608.Idx → α) (ix3 0 a k) = ((cfg0.win 2).fill (grid0.coords t) d' g : S1x96x4608.Idx → α) (ix3 0 a k) := by
  have h := vmoved2 t a k hk
  unfold Window.fill; rw [dif_pos h, dif_pos h]
theorem vmoved3 (t : Fin cfg0.N) (a : Fin 1) (k : Fin 4608) (hk : k.val < 4500) : (cfg0.win 3).moved (grid0.coords t) (ix3 0 a k : S1x1x4608.Idx) = true := by
  have H : ∀ x : Fin 3, ((ix3 0 a k : S1x1x4608.Idx) x).val < (![1, 1, 4500] : Fin 3 → ℕ) x := fun x => match x with
    | 0 => Nat.one_pos
    | 1 => a.isLt
    | 2 => hk
  exact ((cfg0.win 3).moved_iff _ _).2 (fun x => lt_of_lt_of_eq (H x) (vx3 t x).symm)
/-- A key inside the array is read from the block, whatever fills the rest. -/
theorem vfill3 {α : Type} (t : Fin cfg0.N) (d d' : S1x1x4608.Idx → α) (g) (a : Fin 1) (k : Fin 4608) (hk : k.val < 4500) :
    ((cfg0.win 3).fill (grid0.coords t) d g : S1x1x4608.Idx → α) (ix3 0 a k) = ((cfg0.win 3).fill (grid0.coords t) d' g : S1x1x4608.Idx → α) (ix3 0 a k) := by
  have h := vmoved3 t a k hk
  unfold Window.fill; rw [dif_pos h, dif_pos h]
theorem vmoved4 (t : Fin cfg0.N) (a : Fin 1) (k : Fin 4608) (hk : k.val < 4500) : (cfg0.win 4).moved (grid0.coords t) (ix3 0 a k : S1x1x4608.Idx) = true := by
  have H : ∀ x : Fin 3, ((ix3 0 a k : S1x1x4608.Idx) x).val < (![1, 1, 4500] : Fin 3 → ℕ) x := fun x => match x with
    | 0 => Nat.one_pos
    | 1 => a.isLt
    | 2 => hk
  exact ((cfg0.win 4).moved_iff _ _).2 (fun x => lt_of_lt_of_eq (H x) (vx4 t x).symm)
/-- A key inside the array is read from the block, whatever fills the rest. -/
theorem vfill4 {α : Type} (t : Fin cfg0.N) (d d' : S1x1x4608.Idx → α) (g) (a : Fin 1) (k : Fin 4608) (hk : k.val < 4500) :
    ((cfg0.win 4).fill (grid0.coords t) d g : S1x1x4608.Idx → α) (ix3 0 a k) = ((cfg0.win 4).fill (grid0.coords t) d' g : S1x1x4608.Idx → α) (ix3 0 a k) := by
  have h := vmoved4 t a k hk
  unfold Window.fill; rw [dif_pos h, dif_pos h]

/-- A column reads only the keys inside the arrays. -/
theorem colOf_congr (X1 X1' : Fin 128 → Fin 2304 → EReal) (X2 X3 X2' X3' : Fin 96 → Fin 4608 → EReal) (X4 X5 X4' X5' : Fin 4608 → EReal) (h1 : X1 = X1')
    (h2 : ∀ a (k : Fin 4608), k.val < 4500 → X2 a k = X2' a k) (h3 : ∀ a (k : Fin 4608), k.val < 4500 → X3 a k = X3' a k)
    (h4 : ∀ (k : Fin 4608), k.val < 4500 → X4 k = X4' k) (h5 : ∀ (k : Fin 4608), k.val < 4500 → X5 k = X5' k) :
    colOf X1 X2 X3 X4 X5 = colOf X1' X2' X3' X4' X5' := by
  subst h1
  funext j
  unfold colOf keyAt
  congr 1
  · funext k
    by_cases hk : k.val < 4500
    · simp only [hk, if_true, h2 _ k hk, h4 k hk]
    · simp only [hk, if_false]
  · funext d k
    by_cases hk : k.val < 4500
    · simp only [hk, if_true, h3 _ k hk, h5 k hk]
    · simp only [hk, if_false]

/-- What the body leaves in the result's buffer is the block. -/
theorem vdone (c : Dev nD) (t : Fin cfg0.N)
    (arg1 : Memref sig .tc .vmem S1x128x2304 .bf16) (arg2 : Memref sig .tc .vmem S1x96x4608 .fp8e4m3) (arg3 : Memref sig .tc .vmem S1x96x4608 .fp8e4m3)
    (arg4 : Memref sig .tc .vmem S1x1x4608 .f32) (arg5 : Memref sig .tc .vmem S1x1x4608 .f32) (arg6 : Memref sig .tc .vmem S1x2304x128 .f32)
    (x1 : Buf (Elt Ideal) (arg1.view.loc (c : Thread nD τ))) (x2 : Buf (Elt Ideal) (arg2.view.loc (c : Thread nD τ)))
    (x3 : Buf (Elt Ideal) (arg3.view.loc (c : Thread nD τ))) (x4 : Buf (Elt Ideal) (arg4.view.loc (c : Thread nD τ)))
    (x5 : Buf (Elt Ideal) (arg5.view.loc (c : Thread nD τ))) (d1 d2 d3 d4)
    (e0 : arg1.view.read (Elt Ideal) x1 = (iblk m c 0 t : S1x128x2304.Idx → Elt Ideal .bf16))
    (e1 : arg2.view.read (Elt Ideal) x2 = ((cfg0.win 1).fill (grid0.coords t) d1 (iblk m c 1 t) : S1x96x4608.Idx → Elt Ideal .fp8e4m3))
    (e2 : arg3.view.read (Elt Ideal) x3 = ((cfg0.win 2).fill (grid0.coords t) d2 (iblk m c 2 t) : S1x96x4608.Idx → Elt Ideal .fp8e4m3))
    (e3 : arg4.view.read (Elt Ideal) x4 = ((cfg0.win 3).fill (grid0.coords t) d3 (iblk m c 3 t) : S1x1x4608.Idx → Elt Ideal .f32))
    (e4 : arg5.view.read (Elt Ideal) x5 = ((cfg0.win 4).fill (grid0.coords t) d4 (iblk m c 4 t) : S1x1x4608.Idx → Elt Ideal .f32))
    (f : Buf (Elt Ideal) (arg6.view.loc (c : Thread nD τ)))
    (D : Done c (bodyCol c arg1 arg2 arg3 arg4 arg5 x1 x2 x3 x4 x5) (BitVec.ofNat 32 (grid0.coords t 0).val) arg6 9 f) :
    arg6.view.read (Elt Ideal) f = vblock m c t := by
  have hc : bodyCol c arg1 arg2 arg3 arg4 arg5 x1 x2 x3 x4 x5 = vcol m c t := by
    unfold bodyCol vcol
    rw [e0, e1, e2, e3, e4]
    exact colOf_congr _ _ _ _ _ _ _ _ _ _ rfl (fun a k hk => vfill1 t _ _ _ a k hk) (fun a k hk => vfill2 t _ _ _ a k hk)
      (fun k hk => vfill3 t _ _ _ 0 k hk) (fun k hk => vfill4 t _ _ _ 0 k hk)
  rw [hc] at D
  funext y
  have h := D (y 1) (lt_of_lt_of_eq (y 1).isLt (by decide)) (y 2)
  have hy : y = ix3 0 (y 1) (y 2) := by
    funext a
    match a with
    | 0 => exact Subsingleton.elim (α := Fin 1) _ _
    | 1 => rfl
    | 2 => rfl
  rw [hy]
  exact h

/-- The body at any point: by `bodyVal`, every input handed back as found. -/
theorem vsound (c : Dev nD) (t : Fin cfg0.N) :
    vPre m c t ⊢ wp frame (wpE (defs₀ (F := Ideal)) Variants.none c none) Set.univ (bodyAt0 t) (fun _ => vPost m c t) := by
  unfold vPre vPost bodyAt0
  rw [vcut1, vcut2, vcut3, vcut4]
  simp only [vbefore0, vbefore1, vbefore2, vbefore3, vbefore4]
  rw [show (vdats m 0 c).Φ t.succ = Pipeline.ΦA spec0 c from rfl, show (vdats m 0 c).Φ t.castSucc = Pipeline.ΦA spec0 c from rfl,
    show (vdats m 0 c).owesAt () t.succ = (vdats m 0 c).owesAt () t.castSucc from rfl, vafter0]
  unfold Pipeline.ΦA
  rw [scopedRest0_eq]
  unfold owns
  iintro ⟨⟨⟨⟨%g7, S7⟩, ⟨%g8, S8⟩, ⟨%g9, S9⟩, ⟨%g10, S10⟩, ⟨%g11, S11⟩, ⟨%g12, S12⟩⟩, Hr⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  iapply (wp_wand_r Idealize.ShloMosaic.frame (wpE (defs₀ (F := Ideal)) Variants.none (c : Thread nD τ) none) Set.univ)
  isplitl [S7 S8 S9 S10 S11 S12 H0 H1 H2 H3 H4 H5]
  · iapply (bodyVal c (grid0.coords t) _ _ _ _ _ _ _ _ _ _ _ _ _ _ _ _ _ _ _ _ _ _ _ _ f0 f1 f2 f3 f4)
    unfold holds
    isplitl [H0]; · iexact H0
    isplitl [H1]; · iexact H1
    isplitl [H2]; · iexact H2
    isplitl [H3]; · iexact H3
    isplitl [H4]; · iexact H4
    isplitl [H5]; · iexists f5; iexact H5
    isplitl [S7]; · iexists g7; simp only [Memref.view_whole, View.set_whole]; iexact S7
    isplitl [S8]; · iexists g8; simp only [Memref.view_whole, View.set_whole]; iexact S8
    isplitl [S9]; · iexists g9; simp only [Memref.view_whole, View.set_whole]; iexact S9
    isplitl [S10]; · iexists g10; simp only [Memref.view_whole, View.set_whole]; iexact S10
    isplitl [S11]; · iexists g11; simp only [Memref.view_whole, View.set_whole]; iexact S11
    iexists g12; simp only [Memref.view_whole, View.set_whole]; iexact S12
  · unfold holds
    simp only [Memref.view_whole, View.set_whole]
    iintro %_ ⟨H0, H1, H2, H3, H4, ⟨%k5, %hk5, H5⟩, S7, S8, S9, S10, S11, S12⟩
    isplitl [S7 S8 S9 S10 S11 S12 Hr]
    · isplitr [Hr]
      · isplitl [S7]; · iexact S7
        isplitl [S8]; · iexact S8
        isplitl [S9]; · iexact S9
        isplitl [S10]; · iexact S10
        isplitl [S11]; · iexact S11
        iexact S12
      · iexact Hr
    isplitl [Ho]; · iexact Ho
    isplitl [H0]
    · iexists f0; isplitr; · ipureintro; exact e0
      iexact H0
    isplitl [H1]
    · iexists d1; iexists f1; isplitr; · ipureintro; exact e1
      iexact H1
    isplitl [H2]
    · iexists d2; iexists f2; isplitr; · ipureintro; exact e2
      iexact H2
    isplitl [H3]
    · iexists d3; iexists f3; isplitr; · ipureintro; exact e3
      iexact H3
    isplitl [H4]
    · iexists d4; iexists f4; isplitr; · ipureintro; exact e4
      iexact H4
    iexists k5; isplitr
    · ipureintro; exact vdone m c t _ _ _ _ _ _ f0 f1 f2 f3 f4 d1 d2 d3 d4 e0 e1 e2 e3 e4 k5 hk5
    iexact H5

/-- The library's body obligation. -/
theorem vobligation (c : Dev nD) : BodyObligationLoose (vdats m 0 c) (defs₀ (F := Ideal)) Variants.none () Set.univ := fun t => by
  rw [bigSep_W0, bigSep_W0, vrow]
  exact triple_restated (vsound m c t) rfl .rfl fun _ => .rfl

set_option backward.isDefEq.respectTransparency.types false in
set_option maxHeartbeats 800000 in
/-- Every execution of @main terminates with every array of the pipeline at what the proof data make of it. -/
theorem vrun : θ_run defs (onTc (τ := τ) (main (F := Ideal))) (s₀ m ρ) (Pipeline.FramePost cfgs (vdats m) 0 (V m)) :=
  Pipeline.θ_run_frame cfgs (vdats m) (0 : Fin 1) launch0 defs₀ Variants.none m ρ main
    (hbody := vobligation m) (hshare := fun c => (vdats m 0 c).share_full fun _ => rfl)
    (howed := fun _ _ => rfl) (V := V m) (hmain := hmain m Variants.none) (hA := vA_eq m) (hΦ := fun _ _ => rfl)

end Cert.KernelIdeal.Gen

end
-- ==== Proof.Prefix.Equation.lean ====
/- A query's row of the kernel's result is plain attention over the 4500 keys: the padded keys weigh nothing, the scale of
   a key moves out of its score, and powers of two of the rescaled scores are exponentials. -/
module

public import proofs.«01_k».proof.Proof.Prefix.Keys

@[expose] public section

noncomputable section

namespace Cert.KernelIdeal.Gen

open Idealize.ShloMosaic

theorem C1_eq : C1 = (((Real.sqrt 96)⁻¹ : ℝ) : EReal) :=
  IdealRules.named_const.ideal_named_scalar _ _ _ _ rfl

theorem C2_eq : C2 = (((Real.sqrt 96)⁻¹ * (Real.log 2)⁻¹ : ℝ) : EReal) :=
  IdealRules.named_const.ideal_named_scalar _ _ _ _ rfl

theorem sub_mul_pos (a b : EReal) (t : ℝ) (ht : 0 < t) : a * t - b * t = (a - b) * t := by
  induction a using EReal.rec <;> induction b using EReal.rec
  all_goals first
    | (rw [← EReal.coe_mul, ← EReal.coe_mul, ← EReal.coe_sub, ← EReal.coe_sub, ← EReal.coe_mul, sub_mul]; done)
    | (rw [EReal.top_mul_coe_of_pos ht, ← EReal.coe_mul, EReal.top_sub_coe, EReal.top_sub_coe, EReal.top_mul_coe_of_pos ht]; done)
    | (rw [EReal.bot_mul_coe_of_pos ht, ← EReal.coe_mul, EReal.coe_sub_bot, EReal.coe_sub_bot, EReal.top_mul_coe_of_pos ht]; done)
    | (simp [EReal.top_mul_coe_of_pos ht, EReal.bot_mul_coe_of_pos ht, sub_eq_add_neg]; done)

theorem exp2_log (y : EReal) : Ideal.exp2 (y * (((Real.log 2)⁻¹ : ℝ) : EReal)) = Ideal.exp y := by
  have hl : 0 < Real.log 2 := Real.log_pos (by norm_num)
  have ht : 0 < (Real.log 2)⁻¹ := inv_pos.2 hl
  induction y using EReal.rec with
  | bot => rw [EReal.bot_mul_coe_of_pos ht]; rfl
  | top => rw [EReal.top_mul_coe_of_pos ht]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    field_simp

theorem exp2_scores (x m : EReal) : Ideal.exp2 (x * C2 - m * C2) = Ideal.exp (x * C1 - m * C1) := by
  have ht : 0 < (Real.log 2)⁻¹ := inv_pos.2 (Real.log_pos (by norm_num))
  rw [C1_eq, C2_eq, EReal.coe_mul, ← mul_assoc, ← mul_assoc, sub_mul_pos _ _ _ ht, exp2_log]

theorem iSup_mul_C1 (f : Fin 4500 → EReal) : (⨆ k, f k) * C1 = ⨆ k, f k * C1 := by
  have hc : (0 : EReal) ≤ C1 := by rw [C1_eq]; exact_mod_cast inv_nonneg.2 (Real.sqrt_nonneg 96)
  obtain ⟨k0, h0⟩ := exists_eq_ciSup_of_finite (f := f)
  refine le_antisymm ?_ (iSup_le fun k => ?_)
  · rw [← h0]; exact le_iSup (fun k => f k * C1) k0
  · exact mul_le_mul_of_nonneg_right (le_iSup f k) hc

/-- A key among the padded ones. -/
abbrev up (k : Fin 4500) : Fin 4608 := ⟨k.val, by omega⟩

theorem sum_up (f : Fin 4608 → EReal) (h : ∀ k, ¬ k.val < 4500 → f k = 0) : ∑ k, f k = ∑ k : Fin 4500, f (up k) := by
  rw [show (∑ k, f k) = ∑ k : Fin (4500 + 108), f k from rfl, Fin.sum_univ_add]
  rw [Finset.sum_eq_zero (s := (Finset.univ : Finset (Fin 108))) (fun k _ => h _ (by simp))]
  exact add_zero _

theorem iSup_up (f : Fin 4608 → EReal) (h : ∀ k, ¬ k.val < 4500 → f k = ⊥) : ⨆ k, f k = ⨆ k : Fin 4500, f (up k) := by
  refine le_antisymm (iSup_le fun k => ?_) (iSup_le fun k => le_iSup f _)
  by_cases hk : k.val < 4500
  · exact le_iSup (fun k : Fin 4500 => f (up k)) ⟨k.val, hk⟩
  · rw [h k hk]; exact bot_le

theorem sum_mul_scale (f : Fin 96 → EReal) (s : EReal) (h0 : 0 ≤ s) (ht : s ≠ ⊤) : ∑ d, f d * s = (∑ d, f d) * s := by
  suffices H : ∀ S : Finset (Fin 96), ∑ d ∈ S, f d * s = (∑ d ∈ S, f d) * s from H _
  intro S
  induction S using Finset.induction_on with
  | empty => simp
  | insert a S ha ih => rw [Finset.sum_insert ha, Finset.sum_insert ha, ih, EReal.right_distrib_of_nonneg_of_ne_top h0 ht]

/-! ## Plain attention of one query -/

/-- A key's score. -/
def plainS (q : Fin 96 → EReal) (K : Fin 4500 → Fin 96 → EReal) (ks : Fin 4500 → EReal) (k : Fin 4500) : EReal := (∑ d, q d * K k d) * ks k * C1
/-- The largest score. -/
def plainM (q : Fin 96 → EReal) (K : Fin 4500 → Fin 96 → EReal) (ks : Fin 4500 → EReal) : EReal := ⨆ k, plainS q K ks k
/-- A key's weight. -/
def plainP (q : Fin 96 → EReal) (K : Fin 4500 → Fin 96 → EReal) (ks : Fin 4500 → EReal) (k : Fin 4500) : EReal := Ideal.exp (plainS q K ks k - plainM q K ks)
/-- A lane of the query's row. -/
def plainOut (q : Fin 96 → EReal) (K V : Fin 4500 → Fin 96 → EReal) (ks vs : Fin 4500 → EReal) (h : BitVec 32) (n : Fin 128) : EReal :=
  if h_1 : n.val < 96 then ∑ k, plainP q K ks k * vs k * V k ⟨n.val, h_1⟩
  else Scalar.select (IntOp.cmpi CmpIPredicate.eq (IntOp.subi (BitVec.ofNat 32 (n.val - 96)) h) 0#32) (plainM q K ks)
    (Scalar.select (IntOp.cmpi CmpIPredicate.eq (IntOp.subi (BitVec.ofNat 32 (n.val - 96)) h) 16#32) (∑ k, plainP q K ks k) (0 : EReal))

variable (q : Fin 96 → EReal) (K V : Fin 4500 → Fin 96 → EReal) (ks vs : Fin 4500 → EReal)
  (X1 : Fin 128 → Fin 2304 → EReal) (X2 X3 : Fin 96 → Fin 4608 → EReal) (X4 X5 : Fin 4608 → EReal) (j : Fin 2304)

theorem col_real (h0 : ∀ k, 0 ≤ ks k) (ht : ∀ k, ks k ≠ ⊤) (hq : ∀ d : Fin 96, X1 ⟨d.val, by omega⟩ j = q d) (h2 : ∀ d k, X2 d (up k) = K k d)
    (h4 : ∀ k, X4 (up k) = ks k) (k : Fin 4500) : (colOf X1 X2 X3 X4 X5 j).s (up k) = (∑ d, q d * K k d) * ks k := by
  show (∑ d : Fin (96 + 32), keyAt X2 X4 (up k) d * X1 d j) = _
  rw [Fin.sum_univ_add, Finset.sum_eq_zero (s := (Finset.univ : Finset (Fin 32)))]
  · rw [add_zero, ← sum_mul_scale _ _ (h0 k) (ht k)]
    refine Finset.sum_congr rfl fun d _ => ?_
    have e : X1 (Fin.castAdd 32 d) j = q d := hq d
    rw [e]
    unfold keyAt
    rw [dif_pos (show (Fin.castAdd 32 d).val < 96 from d.isLt), if_pos (show (up k).val < 4500 from k.isLt)]
    rw [show X2 ⟨(Fin.castAdd 32 d).val, d.isLt⟩ (up k) = K k d from h2 d k, h4]
    rw [mul_assoc, mul_comm (ks k), ← mul_assoc, mul_comm (K k d)]
  · intro d _
    unfold keyAt
    rw [dif_neg (show ¬ (Fin.natAdd 96 d).val < 96 by simp), if_pos (show (up k).val < 4500 from k.isLt), zero_mul]

theorem col_pad (h1 : X1 ⟨96, by omega⟩ j = 1) (hz : ∀ d : Fin 128, 96 < d.val → X1 d j = 0) (k : Fin 4608) (hk : ¬ k.val < 4500) :
    (colOf X1 X2 X3 X4 X5 j).s k = ⊥ := by
  show (∑ d : Fin 128, keyAt X2 X4 k d * X1 d j) = _
  rw [← Finset.add_sum_erase _ _ (Finset.mem_univ (⟨96, by omega⟩ : Fin 128)), h1]
  unfold keyAt
  rw [dif_neg (by simp), if_neg hk, mul_one, EReal.bot_add]

/-- The kernel's row is plain attention's. -/
theorem col_plain (h0 : ∀ k, 0 ≤ ks k) (ht : ∀ k, ks k ≠ ⊤) (hq : ∀ d : Fin 96, X1 ⟨d.val, by omega⟩ j = q d)
    (h1 : X1 ⟨96, by omega⟩ j = 1) (hz : ∀ d : Fin 128, 96 < d.val → X1 d j = 0) (h2 : ∀ d k, X2 d (up k) = K k d) (h3 : ∀ d k, X3 d (up k) = V k d)
    (h4 : ∀ k, X4 (up k) = ks k) (h5 : ∀ k, X5 (up k) = vs k) (h : BitVec 32) (n : Fin 128) :
    (colOf X1 X2 X3 X4 X5 j).out h n = plainOut q K V ks vs h n := by
  have hs := col_real q K ks X1 X2 X3 X4 X5 j h0 ht hq h2 h4
  have hp := col_pad X1 X2 X3 X4 X5 j h1 hz
  have hv : ∀ d k, (colOf X1 X2 X3 X4 X5 j).v d (up k) = V k d * vs k := fun d k => by
    show (if (up k).val < 4500 then _ else _) = _
    rw [if_pos (show (up k).val < 4500 from k.isLt), h3, h5]
  generalize colOf X1 X2 X3 X4 X5 j = C at hs hp hv
  have hm : C.max * C1 = plainM q K ks := by
    unfold Col.max plainM plainS
    rw [iSup_up _ hp, iSup_mul_C1]
    simp only [hs]
  have hw : ∀ k, C.p (up k) = plainP q K ks k := fun k => by
    unfold Col.p plainP
    rw [exp2_scores, hm, hs]; rfl
  have hw0 : ∀ k, ¬ k.val < 4500 → C.p k = 0 := fun k hk => by
    unfold Col.p
    rw [exp2_scores, hp k hk, C1_eq, EReal.bot_mul_coe_of_pos (inv_pos.2 (Real.sqrt_pos.2 (by norm_num))), sub_eq_add_neg, EReal.bot_add]; rfl
  unfold Col.out plainOut
  rw [hm, sum_up _ hw0]
  simp only [hw]
  by_cases hn : n.val < 96
  · rw [dif_pos hn, dif_pos hn, sum_up _ (fun k hk => by rw [hw0 k hk, mul_zero])]
    refine Finset.sum_congr rfl fun k _ => ?_
    rw [hv, hw, mul_assoc, mul_comm (vs k), mul_comm (V k _), ]
  · rw [dif_neg hn, dif_neg hn]

end Cert.KernelIdeal.Gen

end
-- ==== Proof.Prefix.Query.lean ====
/- The query rows as both programs lay them out: row `j` of key head `h` holds, below row 2080, the query of sequence
   position `j / 40`, batch entry `j / 4 % 10` and query head `4 h + j % 4`; the rows above it are zero. -/
module
public import Idealize.ShloMosaic.PureOps.IdealRules
public import Idealize.ShloMosaic.Lib.Pointwise
@[expose] public section
noncomputable section
namespace Cert.Query
open Idealize.ShloMosaic Idealize.ShloMosaic.Pointwise

/-- Channel `d` of query row `j` of key head `h`. -/
def row (a : (⟨3, ![52, 10, 3072]⟩ : Shape).Idx → EReal) (h : Fin 8) (j : Fin 2304) (d : Fin 96) : EReal :=
  if hj : j.val < 2080 then
    a (ix3 ⟨j.val / 40, by omega⟩ ⟨j.val / 4 % 10, by omega⟩ ⟨h.val * 384 + j.val % 4 * 96 + d.val, by omega⟩)
  else 0

/-- The padding word, converted, is zero. -/
theorem pad_zero : (FloatOps.sitofp (F := Ideal) FTy.bf16 0#32 : EReal) = 0 := by
  show (((0#32 : BitVec 32).toInt : ℝ) : EReal) = 0
  norm_num

end Cert.Query
end
-- ==== Proof.Prefix.KernelHost.lean ====
/- What the kernel's arrays hold when its call begins, read off the program's own arguments: the padded queries with
   their lane of ones, and the keys, values and scales with the head axis first. -/
module
public import proofs.«01_k».proof.Proof.Gen.KernelIdeal.Frame
public import proofs.«01_k».proof.Proof.Prefix.Query
public import Idealize.ShloMosaic.Lib.Pipeline.ValueKit.Point
@[expose] public section
set_option maxRecDepth 65536
noncomputable section
namespace Cert.KernelIdeal.Gen
open Idealize.ShloMosaic Idealize.ShloMosaic.TcCoe Idealize.ShloMosaic.Tactic
open Idealize.ShloMosaic.Pointwise
variable (m : (ℓ : Loc nD τ sig) → Buf (Elt Ideal) ℓ)

/-- Lanes below 96 of the query array hold the queries. -/
theorem V_v6_query (c : Dev nD) (h : Fin 8) (d : Fin 96) (j : Fin 2304) :
    (V m c main_v6 : S8x128x2304.Idx → EReal) (ix3 h ⟨d.val, by omega⟩ j) = (show EReal from Query.row (m (c.tc.loc main_arg0) : S52x10x3072.Idx → EReal) h j d) := by
  simp only [V, hostOps0, hostOps0_1, hostOps0_2, List.flatten_cons, List.flatten_nil, List.append_nil, List.cons_append, List.nil_append]
  simp only [StableHlo.after_cons, StableHlo.after_nil]
  after_results_simp
  dsimp only [Matrix.cons_val]
  after_results_simp
  simp -implicitDefEqProofs only [StableHlo.TRef.toBuf, StableHlo.TRef.ofBuf, cast_cast, cast_eq]
  pointwise [Query.row]
  split
  · rfl
  · exact Query.pad_zero
/-- Lane 96 holds ones. -/
theorem V_v6_one (c : Dev nD) (h : Fin 8) (j : Fin 2304) :
    (V m c main_v6 : S8x128x2304.Idx → EReal) (ix3 h ⟨96, by omega⟩ j) = (1 : EReal) := by
  simp only [V, hostOps0, hostOps0_1, hostOps0_2, List.flatten_cons, List.flatten_nil, List.append_nil, List.cons_append, List.nil_append]
  simp only [StableHlo.after_cons, StableHlo.after_nil]
  after_results_simp
  dsimp only [Matrix.cons_val]
  after_results_simp
  simp -implicitDefEqProofs only [StableHlo.TRef.toBuf, StableHlo.TRef.ofBuf, cast_cast, cast_eq]
  pointwise
/-- The lanes above it hold zeros. -/
theorem V_v6_zero (c : Dev nD) (h : Fin 8) (d : Fin 128) (hd : 96 < d.val) (j : Fin 2304) :
    (V m c main_v6 : S8x128x2304.Idx → EReal) (ix3 h d j) = (0 : EReal) := by
  simp only [V, hostOps0, hostOps0_1, hostOps0_2, List.flatten_cons, List.flatten_nil, List.append_nil, List.cons_append, List.nil_append]
  simp only [StableHlo.after_cons, StableHlo.after_nil]
  after_results_simp
  dsimp only [Matrix.cons_val]
  after_results_simp
  simp -implicitDefEqProofs only [StableHlo.TRef.toBuf, StableHlo.TRef.ofBuf, cast_cast, cast_eq]
  pointwise
  rw [dif_neg (by omega), dif_neg (by omega)]

theorem V_v7 (c : Dev nD) (h : Fin 8) (d : Fin 96) (k : Fin 4500) :
    (V m c main_v7 : S8x96x4500.Idx → EReal) (ix3 h d k) = (m (c.tc.loc main_arg1) : S4500x8x96.Idx → EReal) (ix3 k h d) := by
  simp only [V, hostOps0, hostOps0_1, hostOps0_2, List.flatten_cons, List.flatten_nil, List.append_nil, List.cons_append, List.nil_append]
  entry_read
  pointwise
theorem V_v8 (c : Dev nD) (h : Fin 8) (d : Fin 96) (k : Fin 4500) :
    (V m c main_v8 : S8x96x4500.Idx → EReal) (ix3 h d k) = (m (c.tc.loc main_arg2) : S4500x8x96.Idx → EReal) (ix3 k h d) := by
  simp only [V, hostOps0, hostOps0_1, hostOps0_2, List.flatten_cons, List.flatten_nil, List.append_nil, List.cons_append, List.nil_append]
  entry_read
  pointwise
theorem V_v10 (c : Dev nD) (h : Fin 8) (k : Fin 4500) :
    (V m c main_v10 : S8x1x4500.Idx → EReal) (ix3 h 0 k) = (m (c.tc.loc main_arg3) : S4500x8.Idx → EReal) (ix2 k h) := by
  simp only [V, hostOps0, hostOps0_1, hostOps0_2, List.flatten_cons, List.flatten_nil, List.append_nil, List.cons_append, List.nil_append]
  entry_read
  pointwise
theorem V_v12 (c : Dev nD) (h : Fin 8) (k : Fin 4500) :
    (V m c main_v12 : S8x1x4500.Idx → EReal) (ix3 h 0 k) = (m (c.tc.loc main_arg4) : S4500x8.Idx → EReal) (ix2 k h) := by
  simp only [V, hostOps0, hostOps0_1, hostOps0_2, List.flatten_cons, List.flatten_nil, List.append_nil, List.cons_append, List.nil_append]
  entry_read
  pointwise

end Cert.KernelIdeal.Gen
end
-- ==== Proof.Prefix.KernelArr.lean ====
/- The kernel's result array as a function of the program's arguments: what each block of its inputs reads, the blocks of
   its result put together, and the row's value by `col_plain`. -/
module
public import proofs.«01_k».proof.Proof.Prefix.FrameVal
public import proofs.«01_k».proof.Proof.Prefix.Equation
public import proofs.«01_k».proof.Proof.Prefix.KernelHost
public import Idealize.ShloMosaic.Lib.Pipeline.ValueKit.Point
@[expose] public section
set_option maxRecDepth 65536
noncomputable section
namespace Cert.KernelIdeal.Gen
open Idealize.ShloMosaic Idealize.ShloMosaic.TcCoe Idealize.ShloMosaic.Tactic
open Idealize.ShloMosaic.Pointwise
open Idealize.ShloMosaic.Pipeline (Dat Cfg Window)
variable (m : (ℓ : Loc nD τ sig) → Buf (Elt Ideal) ℓ)
theorem widx0 : ∀ t : Fin grid0.N, win0_0.index t = ![t.val, 0, 0] := by decide +kernel
theorem widx1 : ∀ t : Fin grid0.N, win0_1.index t = ![t.val, 0, 0] := by decide +kernel
theorem widx2 : ∀ t : Fin grid0.N, win0_2.index t = ![t.val, 0, 0] := by decide +kernel
theorem widx3 : ∀ t : Fin grid0.N, win0_3.index t = ![t.val, 0, 0] := by decide +kernel
theorem widx4 : ∀ t : Fin grid0.N, win0_4.index t = ![t.val, 0, 0] := by decide +kernel
theorem widx5 : ∀ t : Fin grid0.N, win0_5.index t = ![t.val, 0, 0] := by decide +kernel
theorem wcoord : ∀ t : Fin grid0.N, (grid0.coords t 0).val = t.val := by decide +kernel

theorem blk0 (c : Dev nD) (t : Fin cfg0.N) (d : Fin 128) (j : Fin 2304) :
    (iblk m c 0 t : S1x128x2304.Idx → Elt Ideal .bf16) (ix3 0 d j) = (V m c main_v6 : S8x128x2304.Idx → EReal) (ix3 ⟨t.val, t.isLt⟩ d j) := by
  blk_ext [iblk, widx0 t]
theorem blk1 (c : Dev nD) (t : Fin cfg0.N) (g) (d : Fin 96) (k : Fin 4500) :
    ((cfg0.win 1).fill (grid0.coords t) g (iblk m c 1 t) : S1x96x4608.Idx → Elt Ideal .fp8e4m3) (ix3 0 d (up k))
      = (V m c main_v7 : S8x96x4500.Idx → EReal) (ix3 ⟨t.val, t.isLt⟩ d k) := by
  unfold Window.fill
  rw [dif_pos (vmoved1 t d (up k) k.isLt)]
  blk_ext [iblk, widx1 t]

theorem blk2 (c : Dev nD) (t : Fin cfg0.N) (g) (d : Fin 96) (k : Fin 4500) :
    ((cfg0.win 2).fill (grid0.coords t) g (iblk m c 2 t) : S1x96x4608.Idx → Elt Ideal .fp8e4m3) (ix3 0 d (up k))
      = (V m c main_v8 : S8x96x4500.Idx → EReal) (ix3 ⟨t.val, t.isLt⟩ d k) := by
  unfold Window.fill
  rw [dif_pos (vmoved2 t d (up k) k.isLt)]
  blk_ext [iblk, widx2 t]

theorem blk3 (c : Dev nD) (t : Fin cfg0.N) (g) (k : Fin 4500) :
    ((cfg0.win 3).fill (grid0.coords t) g (iblk m c 3 t) : S1x1x4608.Idx → Elt Ideal .f32) (ix3 0 0 (up k))
      = (V m c main_v10 : S8x1x4500.Idx → EReal) (ix3 ⟨t.val, t.isLt⟩ 0 k) := by
  unfold Window.fill
  rw [dif_pos (vmoved3 t 0 (up k) k.isLt)]
  blk_ext [iblk, widx3 t]
theorem blk4 (c : Dev nD) (t : Fin cfg0.N) (g) (k : Fin 4500) :
    ((cfg0.win 4).fill (grid0.coords t) g (iblk m c 4 t) : S1x1x4608.Idx → Elt Ideal .f32) (ix3 0 0 (up k))
      = (V m c main_v12 : S8x1x4500.Idx → EReal) (ix3 ⟨t.val, t.isLt⟩ 0 k) := by
  unfold Window.fill
  rw [dif_pos (vmoved4 t 0 (up k) k.isLt)]
  blk_ext [iblk, widx4 t]

theorem widx_inj5 : ∀ t t' : Fin cfg0.N, win0_5.index t = win0_5.index t' → t = t' :=
  (by decide +kernel : ∀ t t' : Fin grid0.N, win0_5.index t = win0_5.index t' → t = t')
theorem vdisjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (widx_inj5 t t' h)
theorem vflush5 : ∀ t : Fin grid0.N, win0_5.flush t = true := by decide +kernel
theorem vblocks5 (c : Dev nD) (t : Fin cfg0.N) :
    ((cfg0.win 5).blk t).view.read (Elt Ideal) ((vdats m 0 c).arrAt 5 cfg0.N) = (vdats m 0 c).flushed 5 t :=
  (vdats m 0 c).read_blk_arrAt_eq_flushed 5 vdisjoint5 cfg0.N t t.isLt (vflush5 t)
theorem varr (c : Dev nD) (t : Fin cfg0.N) (j : Fin 2304) (n : Fin 128) :
    ((vdats m 0 c).arrAt 5 cfg0.N : S8x2304x128.Idx → EReal) (ix3 ⟨t.val, t.isLt⟩ j n) = vblock m c t (ix3 0 j n) := by
  have e := congrFun (vblocks5 m c t) (ix3 0 j n : S1x2304x128.Idx)
  have e2 : (vdats m 0 c).flushed 5 t (ix3 0 j n : S1x2304x128.Idx) = vblock m c t (ix3 0 j n) := rfl
  rw [← e2, ← e]
  blk_ext [widx5 t]
/-- The result array, lane by lane, from the program's arguments. -/
theorem kvalue (c : Dev nD) (h : Fin 8) (j : Fin 2304) (n : Fin 128)
    (h0 : ∀ k, LE.le (α := EReal) 0 ((m (c.tc.loc main_arg3) : S4500x8.Idx → EReal) (ix2 k h)))
    (ht : ∀ k, Ne (α := EReal) ((m (c.tc.loc main_arg3) : S4500x8.Idx → EReal) (ix2 k h)) ⊤) :
    ((vdats m 0 c).arrAt 5 cfg0.N : S8x2304x128.Idx → EReal) (ix3 h j n)
      = plainOut (fun d => Query.row (m (c.tc.loc main_arg0) : S52x10x3072.Idx → EReal) h j d)
          (fun k d => (m (c.tc.loc main_arg1) : S4500x8x96.Idx → EReal) (ix3 k h d)) (fun k d => (m (c.tc.loc main_arg2) : S4500x8x96.Idx → EReal) (ix3 k h d))
          (fun k => (m (c.tc.loc main_arg3) : S4500x8.Idx → EReal) (ix2 k h)) (fun k => (m (c.tc.loc main_arg4) : S4500x8.Idx → EReal) (ix2 k h))
          (BitVec.ofNat 32 h.val) n := by
  refine (varr m c ⟨h.val, h.isLt⟩ j n).trans ?_
  show (vcol m c ⟨h.val, h.isLt⟩ j).out (BitVec.ofNat 32 (grid0.coords ⟨h.val, h.isLt⟩ 0).val) n = _
  rw [wcoord]
  unfold vcol
  exact col_plain _ _ _ _ _ _ _ _ _ _ j h0 ht
    (fun d => (blk0 m c ⟨h.val, h.isLt⟩ _ j).trans (V_v6_query m c h d j))
    ((blk0 m c ⟨h.val, h.isLt⟩ _ j).trans (V_v6_one m c h j))
    (fun d hd => (blk0 m c ⟨h.val, h.isLt⟩ d j).trans (V_v6_zero m c h d hd j))
    (fun d k => (blk1 m c ⟨h.val, h.isLt⟩ _ d k).trans (V_v7 m c h d k))
    (fun d k => (blk2 m c ⟨h.val, h.isLt⟩ _ d k).trans (V_v8 m c h d k))
    (fun k => (blk3 m c ⟨h.val, h.isLt⟩ _ k).trans (V_v10 m c h k))
    (fun k => (blk4 m c ⟨h.val, h.isLt⟩ _ k).trans (V_v12 m c h k)) _ n

end Cert.KernelIdeal.Gen
end
-- ==== Proof.Prefix.RefHost.lean ====
/- What the reference's arrays hold when its call begins, read off the program's own arguments: the padded queries, and
   the keys, values and scales with the head axis first. -/
module
public import proofs.«01_k».proof.Proof.Gen.ReferenceIdeal.Value
public import proofs.«01_k».proof.Proof.Prefix.Query
public import Idealize.ShloMosaic.Lib.Pipeline.ValueKit.Point
@[expose] public section
set_option maxRecDepth 65536
noncomputable section
namespace Cert.ReferenceIdeal.Gen
open Idealize.ShloMosaic Idealize.ShloMosaic.TcCoe Idealize.ShloMosaic.Tactic
open Idealize.ShloMosaic.Pointwise
variable (m : (ℓ : Loc nD τ sig) → Buf (Elt Ideal) ℓ)

theorem V_v3 (c : Dev nD) (h : Fin 8) (d : Fin 96) (j : Fin 2304) :
    (V m c main_v3 : S8x2304x96.Idx → EReal) (ix3 h j d) = (show EReal from Query.row (m (c.tc.loc main_arg0) : S52x10x3072.Idx → EReal) h j d) := by
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise [Query.row]
  split
  · rfl
  · exact Query.pad_zero
theorem V_v4 (c : Dev nD) (h : Fin 8) (d : Fin 96) (k : Fin 4500) :
    (V m c main_v4 : S8x4500x96.Idx → EReal) (ix3 h k d) = (m (c.tc.loc main_arg1) : S4500x8x96.Idx → EReal) (ix3 k h d) := by
  simp only [V, hostOps0, hostOps0_1, hostOps0_2, List.flatten_cons, List.flatten_nil, List.append_nil, List.cons_append, List.nil_append]
  entry_read
  pointwise
theorem V_v5 (c : Dev nD) (h : Fin 8) (d : Fin 96) (k : Fin 4500) :
    (V m c main_v5 : S8x4500x96.Idx → EReal) (ix3 h k d) = (m (c.tc.loc main_arg2) : S4500x8x96.Idx → EReal) (ix3 k h d) := by
  simp only [V, hostOps0, hostOps0_1, hostOps0_2, List.flatten_cons, List.flatten_nil, List.append_nil, List.cons_append, List.nil_append]
  entry_read
  pointwise

theorem ridx0 : ∀ t : Fin grid0.N, win0_0.index t = ![0, 0, 0] := by decide +kernel
theorem ridx1 : ∀ t : Fin grid0.N, win0_1.index t = ![0, 0, 0] := by decide +kernel
theorem ridx2 : ∀ t : Fin grid0.N, win0_2.index t = ![0, 0, 0] := by decide +kernel
theorem ridx3 : ∀ t : Fin grid0.N, win0_3.index t = ![0, 0, 0] := by decide +kernel
theorem ridx4 : ∀ t : Fin grid0.N, win0_4.index t = ![0, 0, 0] := by decide +kernel
theorem ridx5 : ∀ t : Fin grid0.N, win0_5.index t = ![0, 0, 0] := by decide +kernel
theorem V_v9 (c : Dev nD) (h : Fin 8) (k : Fin 4500) :
    (V m c main_v9 : S8x1x4500.Idx → EReal) (ix3 h 0 k) = (m (c.tc.loc main_arg4) : S4500x8.Idx → EReal) (ix2 k h) := by
  simp only [V, hostOps0, hostOps0_1, hostOps0_2, List.flatten_cons, List.flatten_nil, List.append_nil, List.cons_append, List.nil_append]
  entry_read
  pointwise
theorem V_v7 (c : Dev nD) (h : Fin 8) (k : Fin 4500) :
    (V m c main_v7 : S8x1x4500.Idx → EReal) (ix3 h 0 k) = (m (c.tc.loc main_arg3) : S4500x8.Idx → EReal) (ix2 k h) := by
  simp only [V, hostOps0, hostOps0_1, hostOps0_2, List.flatten_cons, List.flatten_nil, List.append_nil, List.cons_append, List.nil_append]
  entry_read
  pointwise
theorem rblk0 (c : Dev nD) (t : Fin cfg0.N) : (iblk m c 0 t : S8x2304x96.Idx → Elt Ideal .bf16) = (V m c main_v3 : S8x2304x96.Idx → EReal) := by
  funext y
  blk_ext [iblk, V, ridx0 t]
theorem rblk1 (c : Dev nD) (t : Fin cfg0.N) : (iblk m c 1 t : S8x4500x96.Idx → Elt Ideal .fp8e4m3) = (V m c main_v4 : S8x4500x96.Idx → EReal) := by
  funext y
  blk_ext [iblk, V, ridx1 t]
theorem rblk2 (c : Dev nD) (t : Fin cfg0.N) : (iblk m c 2 t : S8x4500x96.Idx → Elt Ideal .fp8e4m3) = (V m c main_v5 : S8x4500x96.Idx → EReal) := by
  funext y
  blk_ext [iblk, V, ridx2 t]
theorem rblk3 (c : Dev nD) (t : Fin cfg0.N) : (iblk m c 3 t : S8x1x4500.Idx → Elt Ideal .f32) = (V m c main_v7 : S8x1x4500.Idx → EReal) := by
  funext y
  blk_ext [iblk, V, ridx3 t]
theorem rblk4 (c : Dev nD) (t : Fin cfg0.N) : (iblk m c 4 t : S8x1x4500.Idx → Elt Ideal .f32) = (V m c main_v9 : S8x1x4500.Idx → EReal) := by
  funext y
  blk_ext [iblk, V, ridx4 t]
end Cert.ReferenceIdeal.Gen
end
-- ==== Proof.Prefix.RefVal.lean ====
/- The value of the reference's call, lane by lane: plain attention of the arrays its body loads, and the result array as
   a function of the program's arguments. -/
module
public import proofs.«01_k».proof.Proof.Prefix.RefHost
public import proofs.«01_k».proof.Proof.Prefix.Equation
public import Idealize.ShloMosaic.Lib.Pipeline.ValueKit.Point
@[expose] public section
set_option maxRecDepth 65536
noncomputable section
namespace Cert.ReferenceIdeal.Gen
open Idealize.ShloMosaic Idealize.ShloMosaic.TcCoe Idealize.ShloMosaic.Tactic
open Idealize.ShloMosaic.Pointwise
open Cert.KernelIdeal.Gen (plainS plainM plainP plainOut)
variable (m : (ℓ : Loc nD τ sig) → Buf (Elt Ideal) ℓ)

/-- The offsets of a whole load. -/
theorem hz3 : (![0,0,0] : Fin 3 → ℕ) = fun _ => 0 := by decide +kernel
/-- The one store leaves its payload, and each load reads its whole block. -/
theorem out_whole (v0 : Vec Ideal S8x2304x96 .bf16) (v2 v24 : Vec Ideal S8x4500x96 .fp8e4m3) (v6 v19 : Vec Ideal S8x1x4500 .f32) :
   out0_5 v0 v2 v24 v6 v19 = k0_pay1 (k0_pay3 v0 v2 v6) (k0_pay5 v0 v2 v6 v19 v24) k0_pay7 k0_pay8 (Scalar.ofBits (F := Ideal) .f32 0x00000000#32) (k0_pay9 v0 v2 v6) := by
  unfold out0_5
  rw [View.canon_cons_unit_zero (S := S8x2304x128) hz3, View.ld_unit_zero (S := S8x2304x96) hz3, View.ld_unit_zero (S := S8x4500x96) hz3, View.ld_unit_zero (S := S8x1x4500) hz3, View.ld_unit_zero (S := S8x1x4500) hz3, View.ld_unit_zero (S := S8x4500x96) hz3]

/-- A lane of the stored block is plain attention's. -/
theorem out_plain (v0 : Vec Ideal S8x2304x96 .bf16) (v2 v24 : Vec Ideal S8x4500x96 .fp8e4m3) (v6 v19 : Vec Ideal S8x1x4500 .f32) (h : Fin 8) (j : Fin 2304) (n : Fin 128) :
   (out0_5 v0 v2 v24 v6 v19 : S8x2304x128.Idx → EReal) (ix3 h j n)
     = plainOut (fun d => v0 (ix3 h j d)) (fun k d => v2 (ix3 h k d)) (fun k d => v24 (ix3 h k d)) (fun k => v6 (ix3 h 0 k)) (fun k => v19 (ix3 h 0 k)) (BitVec.ofNat 32 h.val) n := by
  have eS : ∀ k, (k0_pay2 v0 v2 v6 : S8x2304x4500.Idx → EReal) (ix3 h j k) = plainS (fun d => v0 (ix3 h j d)) (fun k d => v2 (ix3 h k d)) (fun k => v6 (ix3 h 0 k)) k := fun k => by
    pointwise [k0_pay2]
    rfl
  have eM : (k0_pay3 v0 v2 v6 : S8x2304x1.Idx → EReal) (ix3 h j 0) = plainM (fun d => v0 (ix3 h j d)) (fun k d => v2 (ix3 h k d)) (fun k => v6 (ix3 h 0 k)) := by
    pointwise [k0_pay3]
    rw [Cert.KernelIdeal.Gen.ninf, Cert.KernelIdeal.Gen.fold_max]
    unfold plainM
    simp only [← eS]
  rw [out_whole]
  pointwise [k0_pay1, k0_pay5, k0_pay7, k0_pay8, k0_pay6, k0_pay9, k0_pay4]
  unfold plainOut plainP
  simp only [eS, eM]
/-- What the point writes back, read at an index of the block. -/
theorem rcut (t : Fin cfg0.N) (X : S8x2304x128.Idx → EReal) (y : S8x2304x128.Idx) :
    ((cfg0.win 5).cut (grid0.coords t) X : S8x2304x128.Idx → EReal) y = X y := rfl
theorem rflush : ∀ t : Fin grid0.N, win0_5.flush t = true := by decide +kernel
/-- The result array, whole, is the one point's block. -/
theorem rarr (c : Dev nD) (t : Fin cfg0.N) (h : Fin 8) (j : Fin 2304) (n : Fin 128) :
    ((dats m 0 c).arrAt 5 cfg0.N : S8x2304x128.Idx → EReal) (ix3 h j n)
      = (out0_5 (iblk m c 0 t) (iblk m c 1 t) (iblk m c 2 t) (iblk m c 3 t) (iblk m c 4 t) : S8x2304x128.Idx → EReal) (ix3 h j n) := by
  have e := congrFun (Value.blocks5 m c t (rflush t)) (ix3 h j n : S8x2304x128.Idx)
  rw [Value.flushed5] at e
  generalize out0_5 (iblk m c 0 t) (iblk m c 1 t) (iblk m c 2 t) (iblk m c 3 t) (iblk m c 4 t) = X at e ⊢
  rw [← rcut t X, ← e]
  generalize (dats m 0 c).arrAt 5 cfg0.N = Y
  blk_ext [ridx5 t]
/-- The result array, lane by lane, from the program's arguments. -/
theorem rvalue (c : Dev nD) (h : Fin 8) (j : Fin 2304) (n : Fin 128) :
    ((dats m 0 c).arrAt 5 cfg0.N : S8x2304x128.Idx → EReal) (ix3 h j n)
      = plainOut (fun d => Query.row (m (c.tc.loc main_arg0) : S52x10x3072.Idx → EReal) h j d)
          (fun k d => (m (c.tc.loc main_arg1) : S4500x8x96.Idx → EReal) (ix3 k h d)) (fun k d => (m (c.tc.loc main_arg2) : S4500x8x96.Idx → EReal) (ix3 k h d))
          (fun k => (m (c.tc.loc main_arg3) : S4500x8.Idx → EReal) (ix2 k h)) (fun k => (m (c.tc.loc main_arg4) : S4500x8.Idx → EReal) (ix2 k h))
          (BitVec.ofNat 32 h.val) n := by
  rw [rarr m c ⟨0, by decide⟩, out_plain, rblk0, rblk1, rblk2, rblk3, rblk4]
  have e0 : (fun d => (V m c main_v3 : S8x2304x96.Idx → EReal) (ix3 h j d)) = fun d => Query.row (m (c.tc.loc main_arg0) : S52x10x3072.Idx → EReal) h j d := funext fun d => V_v3 m c h d j
  have e1 : (fun k d => (V m c main_v4 : S8x4500x96.Idx → EReal) (ix3 h k d)) = fun k d => (m (c.tc.loc main_arg1) : S4500x8x96.Idx → EReal) (ix3 k h d) := funext fun k => funext fun d => V_v4 m c h d k
  have e2 : (fun k d => (V m c main_v5 : S8x4500x96.Idx → EReal) (ix3 h k d)) = fun k d => (m (c.tc.loc main_arg2) : S4500x8x96.Idx → EReal) (ix3 k h d) := funext fun k => funext fun d => V_v5 m c h d k
  have e3 : (fun k => (V m c main_v7 : S8x1x4500.Idx → EReal) (ix3 h 0 k)) = fun k => (m (c.tc.loc main_arg3) : S4500x8.Idx → EReal) (ix2 k h) := funext fun k => V_v7 m c h k
  have e4 : (fun k => (V m c main_v9 : S8x1x4500.Idx → EReal) (ix3 h 0 k)) = fun k => (m (c.tc.loc main_arg4) : S4500x8.Idx → EReal) (ix2 k h) := funext fun k => V_v9 m c h k
  generalize V m c main_v3 = w0 at e0 ⊢
  generalize V m c main_v4 = w1 at e1 ⊢
  generalize V m c main_v5 = w2 at e2 ⊢
  generalize V m c main_v7 = w3 at e3 ⊢
  generalize V m c main_v9 = w4 at e4 ⊢
  exact (congr (congr (congr (congr (congrArg plainOut e0) e1) e2) e3) e4) ▸ rfl

end Cert.ReferenceIdeal.Gen
end
-- ==== Proof.Prefix.Scales.lean ====
/- The precondition read element by element: every key scale is at least zero and is not infinite. -/
module
public import proofs.«01_k».proof.Pre_scales_nonnegative
public import Idealize.ShloMosaic.PureOps.IdealRules
public import Idealize.ShloMosaic.Lib.Pointwise
public import Idealize.ShloMosaic.Lib.ReduceAll
@[expose] public section
noncomputable section
namespace Cert.Pre_scales_nonnegative
open Idealize.ShloMosaic Idealize.ShloMosaic.Pointwise

/-- The shapes' side conditions. -/
theorem facts : Facts where
  bcast_S_S4500x8 := by decide
  reducesTo_S4500x8_S_d0_1 := by decide
  h_S_ := by decide

instance : Subsingleton S_.Idx := ⟨fun a b => funext fun i => i.elim0⟩

theorem scales [Facts] (a0 : FVec Ideal S52x10x3072 .bf16) (a1 a2 : FVec Ideal S4500x8x96 .fp8e4m3) (a3 a4 : FVec Ideal S4500x8 .f32)
    (e : fn (F := Ideal) a0 a1 a2 a3 a4 = fun _ => 1#1) (i : S4500x8.Idx) : (0 : EReal) ≤ a3 i ∧ (a3 i : EReal) ≠ ⊤ := by
  have h := IntOp.andi_eq_one.1 (Host.reduce_andi_all _ _ _ _ _ (congrFun e (fun i => i.elim0)) i)
  have h1 := h.1
  have h2 := h.2
  pointwise at h1 h2
  have ofb : ∀ p : Prop, [Decidable p] → BitVec.ofBool (decide p) = 1#1 → p := fun p _ h => by
    by_contra hp
    rw [decide_eq_false hp] at h
    exact absurd h (by decide)
  have top : (Ideal.ofBits FTy.f32 2139095040#32 : EReal) = ⊤ := by
    simp [Ideal.ofBits, Ideal.ieee]
  rw [top] at h2
  exact ⟨ofb _ h1, (ofb _ h2).ne⟩
end Cert.Pre_scales_nonnegative
end
-- ==== Proof.Prefix.BodyBits.lean ====
/- The body of `Kernel` as memory sees it: from whole buffers at any contents it runs to its end, the inputs keep
   what they hold, and the other buffers end at some contents. -/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame

@[expose] public section

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One buffer, whole, at the given contents. -/
abbrev has {s : Shape} {e : EltTy} (c : Dev nD) (b : Memref sig .tc .vmem s e) (f : Buf (Elt F) (b.view.loc (c : Thread nD τ))) : sProp 𝕄 :=
  b.view.loc (c : Thread nD τ) ↦[b.view.set]{fullShare} f

/-- What one trip of the loop may touch: each buffer whole, at some contents. -/
abbrev touched (c : Dev nD)
  (arg1 : Memref sig .tc .vmem S1x128x2304 .bf16) (arg6 : Memref sig .tc .vmem S1x2304x128 .f32)
  (arg7 : Memref sig .tc .vmem S4608x128 .bf16) (arg8 : Memref sig .tc .vmem S96x4608 .bf16)
  (arg9 : Memref sig .tc .vmem S4608x256 .f32) (arg10 : Memref sig .tc .vmem S4608x256 .f32)
  (arg11 : Memref sig .tc .vmem S8x256 .f32) (arg12 : Memref sig .tc .vmem S8x256 .f32)
  (x1 : Buf (Elt F) (arg1.view.loc (c : Thread nD τ))) : sProp 𝕄 :=
  iprop(has c arg1 x1 ∗ (∃ f, has c arg7 f) ∗ (∃ f, has c arg8 f) ∗ (∃ f, has c arg9 f) ∗ (∃ f, has c arg11 f)
    ∗ (∃ f, has c arg6 f) ∗ (∃ f, has c arg10 f) ∗ (∃ f, has c arg12 f))

set_option maxHeartbeats 4000000 in
set_option warn.classDefReducibility false in
/-- The loop's invariant: the buffers it touches, at some contents; the queries' buffer keeps its own. -/
@[sl_loop] def loopInv_k0_t1 (c : Dev nD) (i : grid0.Coords)
  (arg1 : Memref sig .tc .vmem S1x128x2304 .bf16) (harg1 : arg1.IsWhole)
  (arg2 : Memref sig .tc .vmem S1x96x4608 .fp8e4m3) (harg2 : arg2.IsWhole)
  (arg3 : Memref sig .tc .vmem S1x96x4608 .fp8e4m3) (harg3 : arg3.IsWhole)
  (arg4 : Memref sig .tc .vmem S1x1x4608 .f32) (harg4 : arg4.IsWhole)
  (arg5 : Memref sig .tc .vmem S1x1x4608 .f32) (harg5 : arg5.IsWhole)
  (arg6 : Memref sig .tc .vmem S1x2304x128 .f32) (harg6 : arg6.IsWhole)
  (arg7 : Memref sig .tc .vmem S4608x128 .bf16) (harg7 : arg7.IsWhole)
  (arg8 : Memref sig .tc .vmem S96x4608 .bf16) (harg8 : arg8.IsWhole)
  (arg9 : Memref sig .tc .vmem S4608x256 .f32) (harg9 : arg9.IsWhole)
  (arg10 : Memref sig .tc .vmem S4608x256 .f32) (harg10 : arg10.IsWhole)
  (arg11 : Memref sig .tc .vmem S8x256 .f32) (harg11 : arg11.IsWhole)
  (arg12 : Memref sig .tc .vmem S8x256 .f32) (harg12 : arg12.IsWhole)
  (arg0 : BitVec 32) (v468 : FVec F S128x256 .bf16) (v605 : FVec F S8x256 .f32) (v606 : Vec F S256x128 .bf16) (cst_397 : FVec F S256x256 .f32)
  (x1 : Buf (Elt F) (arg1.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg0 v468 v605 v606 cst_397 where
  inv _ _ := touched c arg1 arg6 arg7 arg8 arg9 arg10 arg11 arg12 x1
  step k _ := by
    unfold touched has
    by_cases h1 : k0_cond1 k = 1#1 <;> by_cases h2 : k0_cond2 k = 1#1
    all_goals
      iintro ⟨H1, ⟨%f7, H7⟩, ⟨%f8, H8⟩, ⟨%f9, H9⟩, ⟨%f11, H11⟩, ⟨%f6, H6⟩, ⟨%f10, H10⟩, ⟨%f12, H12⟩⟩
      sl_unfold [k0_t1_body]
      sl_exec
      sl_step
      isplitl [H1]; · iexact H1
      isplitl [H7]; · iexists _; iexact H7
      isplitl [H8]; · iexists _; iexact H8
      isplitl [H9]; · iexists _; iexact H9
      isplitl [H11]; · iexists _; iexact H11
      isplitl [H6]; · iexists _; iexact H6
      isplitl [H10]; · iexists _; iexact H10
      iexists _; iexact H12

set_option maxHeartbeats 8000000 in
/-- The body on whole buffers: the five inputs keep what they hold, the rest end at some contents. -/
theorem bodyRun (c : Dev nD) (i : grid0.Coords)
  (arg1 : Memref sig .tc .vmem S1x128x2304 .bf16) (harg1 : arg1.IsWhole)
  (arg2 : Memref sig .tc .vmem S1x96x4608 .fp8e4m3) (harg2 : arg2.IsWhole)
  (arg3 : Memref sig .tc .vmem S1x96x4608 .fp8e4m3) (harg3 : arg3.IsWhole)
  (arg4 : Memref sig .tc .vmem S1x1x4608 .f32) (harg4 : arg4.IsWhole)
  (arg5 : Memref sig .tc .vmem S1x1x4608 .f32) (harg5 : arg5.IsWhole)
  (arg6 : Memref sig .tc .vmem S1x2304x128 .f32) (harg6 : arg6.IsWhole)
  (arg7 : Memref sig .tc .vmem S4608x128 .bf16) (harg7 : arg7.IsWhole)
  (arg8 : Memref sig .tc .vmem S96x4608 .bf16) (harg8 : arg8.IsWhole)
  (arg9 : Memref sig .tc .vmem S4608x256 .f32) (harg9 : arg9.IsWhole)
  (arg10 : Memref sig .tc .vmem S4608x256 .f32) (harg10 : arg10.IsWhole)
  (arg11 : Memref sig .tc .vmem S8x256 .f32) (harg11 : arg11.IsWhole)
  (arg12 : Memref sig .tc .vmem S8x256 .f32) (harg12 : arg12.IsWhole)
  (x1 : Buf (Elt F) (arg1.view.loc (c : Thread nD τ))) (x2 : Buf (Elt F) (arg2.view.loc (c : Thread nD τ)))
  (x3 : Buf (Elt F) (arg3.view.loc (c : Thread nD τ))) (x4 : Buf (Elt F) (arg4.view.loc (c : Thread nD τ)))
  (x5 : Buf (Elt F) (arg5.view.loc (c : Thread nD τ))) :
    iprop(has c arg1 x1 ∗ has c arg2 x2 ∗ has c arg3 x3 ∗ has c arg4 x4 ∗ has c arg5 x5
        ∗ (∃ f, has c arg6 f) ∗ (∃ f, has c arg7 f) ∗ (∃ f, has c arg8 f) ∗ (∃ f, has c arg9 f) ∗ (∃ f, has c arg10 f)
        ∗ (∃ f, has c arg11 f) ∗ (∃ f, has c arg12 f))
      ⊢ wp frame (wpE (defs₀ (F := F)) Variants.none c none) Set.univ
          (cc0_prefix i arg1 harg1 arg2 harg2 arg3 harg3 arg4 harg4 arg5 harg5 arg6 harg6 arg7 harg7 arg8 harg8 arg9 harg9 arg10 harg10 arg11 harg11 arg12 harg12)
          (fun _ => iprop(has c arg1 x1 ∗ has c arg2 x2 ∗ has c arg3 x3 ∗ has c arg4 x4 ∗ has c arg5 x5
        ∗ (∃ f, has c arg6 f) ∗ (∃ f, has c arg7 f) ∗ (∃ f, has c arg8 f) ∗ (∃ f, has c arg9 f) ∗ (∃ f, has c arg10 f)
        ∗ (∃ f, has c arg11 f) ∗ (∃ f, has c arg12 f))) := by
  unfold has
  simp only [cc0_prefix_eq_skeleton]; unfold cc0_prefix_skel
  iintro ⟨H1, H2, H3, H4, H5, ⟨%f6, H6⟩, ⟨%f7, H7⟩, ⟨%f8, H8⟩, ⟨%f9, H9⟩, ⟨%f10, H10⟩, ⟨%f11, H11⟩, ⟨%f12, H12⟩⟩
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

end Cert.Kernel.Gen

end
-- ==== Proof.Prefix.FrameBits.lean ====
/- The frame of `Kernel`: every execution terminates without fault, the argument arrays end unchanged and every
   semaphore counter ends at zero. The four windows over the codes and scales overhang their arrays, so their staging
   buffers are spoken of on the part inside the arrays only; what the body leaves in the result's staging buffer is not
   named here. -/
module

public import proofs.«01_k».proof.Proof.Prefix.BodyBits

@[expose] public section

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The launch -/

variable (m : (ℓ : Loc nD τ sig) → Buf (Elt F) ℓ) (ρ : Dev nD → PrngReg)

/-- The result's window is forgotten. -/
def forgets : Fin 6 → Bool := fun w => w.val == 5

/-- The proof data: the arrays as the region finds them; after the body each input's buffer at its block, filled out
    past the array's end with a word nothing reads. -/
def pdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (grid0.coords t) (fun _ => Scalar.ofBits .fp8e4m3 0#8) (iblk m c 1 t)
    | ⟨2, _⟩ => (cfg0.win 2).fill (grid0.coords t) (fun _ => Scalar.ofBits .fp8e4m3 0#8) (iblk m c 2 t)
    | ⟨3, _⟩ => (cfg0.win 3).fill (grid0.coords t) (fun _ => Scalar.ofBits .f32 0#32) (iblk m c 3 t)
    | ⟨4, _⟩ => (cfg0.win 4).fill (grid0.coords t) (fun _ => Scalar.ofBits .f32 0#32) (iblk m c 4 t)
    | ⟨5, h⟩ => fun _ => Scalar.ofBits .f32 0#32
  Φ _ := Pipeline.ΦA spec0 c
  q _ := fullShare
  owed _ := 0

theorem pA_eq (c : Dev nD) (w : Fin cfg0.W) : (pdats m 0 c).A w = V m c (Pipeline.arrRef spec0 w) := by dsimp only [pdats]
theorem pafter0 (c : Dev nD) (t : Fin cfg0.N) : (pdats m 0 c).after 0 t = iblk m c 0 t := by dsimp only [pdats]
theorem pbefore0 (c : Dev nD) (t : Fin cfg0.N) (d) : (pdats m 0 c).before 0 t d = iblk m c 0 t :=
  before0_0_of m (pdats m 0 c) (pA_eq m c 0) (pafter0 m c) t d
/-- Window 1 is fetched at every point: its buffer holds the block on the part inside the array. -/
theorem pbefore1 (c : Dev nD) (t : Fin cfg0.N) (d) :
    (pdats m 0 c).before 1 t d = (cfg0.win 1).fill (grid0.coords t) d (iblk m c 1 t) := by
  unfold Dat.before; rw [if_pos (fetch0_1 t)]; rfl
theorem pcut1 (c : Dev nD) (t : Fin cfg0.N) :
    (cfg0.win 1).cut (grid0.coords t) ((pdats m 0 c).after 1 t) = iblk m c 1 t := (cfg0.win 1).cut_fill _ _ _
/-- Window 2 is fetched at every point: its buffer holds the block on the part inside the array. -/
theorem pbefore2 (c : Dev nD) (t : Fin cfg0.N) (d) :
    (pdats m 0 c).before 2 t d = (cfg0.win 2).fill (grid0.coords t) d (iblk m c 2 t) := by
  unfold Dat.before; rw [if_pos (fetch0_2 t)]; rfl
theorem pcut2 (c : Dev nD) (t : Fin cfg0.N) :
    (cfg0.win 2).cut (grid0.coords t) ((pdats m 0 c).after 2 t) = iblk m c 2 t := (cfg0.win 2).cut_fill _ _ _
/-- Window 3 is fetched at every point: its buffer holds the block on the part inside the array. -/
theorem pbefore3 (c : Dev nD) (t : Fin cfg0.N) (d) :
    (pdats m 0 c).before 3 t d = (cfg0.win 3).fill (grid0.coords t) d (iblk m c 3 t) := by
  unfold Dat.before; rw [if_pos (fetch0_3 t)]; rfl
theorem pcut3 (c : Dev nD) (t : Fin cfg0.N) :
    (cfg0.win 3).cut (grid0.coords t) ((pdats m 0 c).after 3 t) = iblk m c 3 t := (cfg0.win 3).cut_fill _ _ _
/-- Window 4 is fetched at every point: its buffer holds the block on the part inside the array. -/
theorem pbefore4 (c : Dev nD) (t : Fin cfg0.N) (d) :
    (pdats m 0 c).before 4 t d = (cfg0.win 4).fill (grid0.coords t) d (iblk m c 4 t) := by
  unfold Dat.before; rw [if_pos (fetch0_4 t)]; rfl
theorem pcut4 (c : Dev nD) (t : Fin cfg0.N) :
    (cfg0.win 4).cut (grid0.coords t) ((pdats m 0 c).after 4 t) = iblk m c 4 t := (cfg0.win 4).cut_fill _ _ _

/-- The body table's row at point `t`'s slots is the body as `bodyAt0` spells it. -/
theorem prow (t : Fin cfg0.N) :
    defs₀ (F := F) .tc cfg0.body (cfg0.bodyArgs t (cfg0.slots t)) = bodyAt0 t := by
  unfold defs₀; rw [Defs.onTc_tc]

/-- What the body is called with at point `t`, -/
def pPre (c : Dev nD) (t : Fin cfg0.N) : sProp 𝕄 :=
  iprop((pdats m 0 c).Φ t.castSucc ∗ (pdats m 0 c).owesAt () t.castSucc
    ∗ (∃ d, owns (c : Thread nD τ) (st0_0 t) fullShare ((pdats m 0 c).before 0 t d))
    ∗ (∃ d, owns (c : Thread nD τ) (st0_1 t) fullShare ((pdats m 0 c).before 1 t d))
    ∗ (∃ d, owns (c : Thread nD τ) (st0_2 t) fullShare ((pdats m 0 c).before 2 t d))
    ∗ (∃ d, owns (c : Thread nD τ) (st0_3 t) fullShare ((pdats m 0 c).before 3 t d))
    ∗ (∃ d, owns (c : Thread nD τ) (st0_4 t) fullShare ((pdats m 0 c).before 4 t d))
    ∗ (∃ X, owns (c : Thread nD τ) (st0_5 t) fullShare X))

/-- and what it returns. -/
def pPost (c : Dev nD) (t : Fin cfg0.N) : sProp 𝕄 :=
  iprop((pdats m 0 c).Φ t.succ ∗ (pdats m 0 c).owesAt () t.succ
    ∗ owns (c : Thread nD τ) (st0_0 t) fullShare ((pdats m 0 c).after 0 t)
    ∗ (∃ d, owns (c : Thread nD τ) (st0_1 t) fullShare ((cfg0.win 1).fill (grid0.coords t) d ((cfg0.win 1).cut (grid0.coords t) ((pdats m 0 c).after 1 t))))
    ∗ (∃ d, owns (c : Thread nD τ) (st0_2 t) fullShare ((cfg0.win 2).fill (grid0.coords t) d ((cfg0.win 2).cut (grid0.coords t) ((pdats m 0 c).after 2 t))))
    ∗ (∃ d, owns (c : Thread nD τ) (st0_3 t) fullShare ((cfg0.win 3).fill (grid0.coords t) d ((cfg0.win 3).cut (grid0.coords t) ((pdats m 0 c).after 3 t))))
    ∗ (∃ d, owns (c : Thread nD τ) (st0_4 t) fullShare ((cfg0.win 4).fill (grid0.coords t) d ((cfg0.win 4).cut (grid0.coords t) ((pdats m 0 c).after 4 t))))
    ∗ (∃ X, owns (c : Thread nD τ) (st0_5 t) fullShare X))

set_option maxHeartbeats 4000000 in
/-- The body at any point: by `bodyRun`, every input handed back as found. -/
theorem psound (c : Dev nD) (t : Fin cfg0.N) :
    pPre m c t ⊢ wp frame (wpE (defs₀ (F := F)) Variants.none c none) Set.univ (bodyAt0 t) (fun _ => pPost m c t) := by
  unfold pPre pPost bodyAt0
  rw [pcut1, pcut2, pcut3, pcut4]
  simp only [pbefore0, pbefore1, pbefore2, pbefore3, pbefore4]
  rw [show (pdats m 0 c).Φ t.succ = Pipeline.ΦA spec0 c from rfl, show (pdats m 0 c).Φ t.castSucc = Pipeline.ΦA spec0 c from rfl,
    show (pdats m 0 c).owesAt () t.succ = (pdats m 0 c).owesAt () t.castSucc from rfl, pafter0]
  unfold Pipeline.ΦA
  rw [scopedRest0_eq]
  unfold owns
  iintro ⟨⟨⟨⟨%g7, S7⟩, ⟨%g8, S8⟩, ⟨%g9, S9⟩, ⟨%g10, S10⟩, ⟨%g11, S11⟩, ⟨%g12, S12⟩⟩, Hr⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  iapply (wp_wand_r Idealize.ShloMosaic.frame (wpE (defs₀ (F := F)) Variants.none (c : Thread nD τ) none) Set.univ)
  isplitl [S7 S8 S9 S10 S11 S12 H0 H1 H2 H3 H4 H5]
  · iapply (bodyRun c (grid0.coords t) _ _ _ _ _ _ _ _ _ _ _ _ _ _ _ _ _ _ _ _ _ _ _ _ f0 f1 f2 f3 f4)
    unfold has
    isplitl [H0]; · iexact H0
    isplitl [H1]; · iexact H1
    isplitl [H2]; · iexact H2
    isplitl [H3]; · iexact H3
    isplitl [H4]; · iexact H4
    isplitl [H5]; · iexists f5; iexact H5
    isplitl [S7]; · iexists g7; simp only [Memref.view_whole, View.set_whole]; iexact S7
    isplitl [S8]; · iexists g8; simp only [Memref.view_whole, View.set_whole]; iexact S8
    isplitl [S9]; · iexists g9; simp only [Memref.view_whole, View.set_whole]; iexact S9
    isplitl [S10]; · iexists g10; simp only [Memref.view_whole, View.set_whole]; iexact S10
    isplitl [S11]; · iexists g11; simp only [Memref.view_whole, View.set_whole]; iexact S11
    iexists g12; simp only [Memref.view_whole, View.set_whole]; iexact S12
  · unfold has
    simp only [Memref.view_whole, View.set_whole]
    iintro %_ ⟨H0, H1, H2, H3, H4, ⟨%k5, H5⟩, S7, S8, S9, S10, S11, S12⟩
    isplitl [S7 S8 S9 S10 S11 S12 Hr]
    · isplitr [Hr]
      · isplitl [S7]; · iexact S7
        isplitl [S8]; · iexact S8
        isplitl [S9]; · iexact S9
        isplitl [S10]; · iexact S10
        isplitl [S11]; · iexact S11
        iexact S12
      · iexact Hr
    isplitl [Ho]; · iexact Ho
    isplitl [H0]
    · iexists f0; isplitr; · ipureintro; exact e0
      iexact H0
    isplitl [H1]
    · iexists d1; iexists f1; isplitr; · ipureintro; exact e1
      iexact H1
    isplitl [H2]
    · iexists d2; iexists f2; isplitr; · ipureintro; exact e2
      iexact H2
    isplitl [H3]
    · iexists d3; iexists f3; isplitr; · ipureintro; exact e3
      iexact H3
    isplitl [H4]
    · iexists d4; iexists f4; isplitr; · ipureintro; exact e4
      iexact H4
    iexists _; iexists k5; isplitr; · ipureintro; rfl
    iexact H5

/-- The library's body obligation. -/
theorem pobligation (c : Dev nD) : BodyObligationLoose (pdats (F := F) m 0 c) (defs₀ (F := F)) Variants.none () Set.univ forgets := fun t => by
  rw [bigSep_W0, bigSep_W0, prow]
  exact triple_restated (psound m c t) rfl .rfl fun _ => .rfl

set_option backward.isDefEq.respectTransparency.types false in
set_option maxHeartbeats 800000 in
/-- Every execution of @main terminates; the buffers no window stages are as the region found them; counters at zero. -/
theorem prun : θ_run defs (onTc (τ := τ) (main (F := F))) (s₀ m ρ)
    (fun r => Pipeline.RDat.FramePost (cfgs 0) (fun c => (pdats m 0 c).toRForget forgets) (V m) r ∧ r.2.sem = fun _ => 0) :=
  Pipeline.θ_run_frame_forget (Q' := _) cfgs (pdats m) (0 : Fin 1) launch0 defs₀ Variants.none forgets m ρ main
    (hbody := pobligation m) (hshare := fun c => (pdats m 0 c).share_full fun _ => rfl)
    (howed := fun _ _ => rfl) (V := V m) (hmain := hmain m Variants.none) (hA := pA_eq m) (hΦ := fun _ _ => rfl)

/-- The frame: the argument arrays end unchanged and every counter at zero. -/
theorem pframe : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, hz⟩ => ⟨fun c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩, hz⟩) (prun m ρ)

end Cert.Kernel.Gen

end
-- ==== Proof.Prefix.BodyIdeal.lean ====
/- The body of `KernelIdeal` as memory sees it: from whole buffers at any contents it runs to its end, the inputs keep
   what they hold, and the other buffers end at some contents. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- One buffer, whole, at the given contents. -/
abbrev has {s : Shape} {e : EltTy} (c : Dev nD) (b : Memref sig .tc .vmem s e) (f : Buf (Elt F) (b.view.loc (c : Thread nD τ))) : sProp 𝕄 :=
  b.view.loc (c : Thread nD τ) ↦[b.view.set]{fullShare} f

/-- What one trip of the loop may touch: each buffer whole, at some contents. -/
abbrev touched (c : Dev nD)
  (arg1 : Memref sig .tc .vmem S1x128x2304 .bf16) (arg6 : Memref sig .tc .vmem S1x2304x128 .f32)
  (arg7 : Memref sig .tc .vmem S4608x128 .bf16) (arg8 : Memref sig .tc .vmem S96x4608 .bf16)
  (arg9 : Memref sig .tc .vmem S4608x256 .f32) (arg10 : Memref sig .tc .vmem S4608x256 .f32)
  (arg11 : Memref sig .tc .vmem S8x256 .f32) (arg12 : Memref sig .tc .vmem S8x256 .f32)
  (x1 : Buf (Elt F) (arg1.view.loc (c : Thread nD τ))) : sProp 𝕄 :=
  iprop(has c arg1 x1 ∗ (∃ f, has c arg7 f) ∗ (∃ f, has c arg8 f) ∗ (∃ f, has c arg9 f) ∗ (∃ f, has c arg11 f)
    ∗ (∃ f, has c arg6 f) ∗ (∃ f, has c arg10 f) ∗ (∃ f, has c arg12 f))

set_option maxHeartbeats 4000000 in
set_option warn.classDefReducibility false in
/-- The loop's invariant: the buffers it touches, at some contents; the queries' buffer keeps its own. -/
@[sl_loop] def loopInv_k0_t1 (c : Dev nD) (i : grid0.Coords)
  (arg1 : Memref sig .tc .vmem S1x128x2304 .bf16) (harg1 : arg1.IsWhole)
  (arg2 : Memref sig .tc .vmem S1x96x4608 .fp8e4m3) (harg2 : arg2.IsWhole)
  (arg3 : Memref sig .tc .vmem S1x96x4608 .fp8e4m3) (harg3 : arg3.IsWhole)
  (arg4 : Memref sig .tc .vmem S1x1x4608 .f32) (harg4 : arg4.IsWhole)
  (arg5 : Memref sig .tc .vmem S1x1x4608 .f32) (harg5 : arg5.IsWhole)
  (arg6 : Memref sig .tc .vmem S1x2304x128 .f32) (harg6 : arg6.IsWhole)
  (arg7 : Memref sig .tc .vmem S4608x128 .bf16) (harg7 : arg7.IsWhole)
  (arg8 : Memref sig .tc .vmem S96x4608 .bf16) (harg8 : arg8.IsWhole)
  (arg9 : Memref sig .tc .vmem S4608x256 .f32) (harg9 : arg9.IsWhole)
  (arg10 : Memref sig .tc .vmem S4608x256 .f32) (harg10 : arg10.IsWhole)
  (arg11 : Memref sig .tc .vmem S8x256 .f32) (harg11 : arg11.IsWhole)
  (arg12 : Memref sig .tc .vmem S8x256 .f32) (harg12 : arg12.IsWhole)
  (arg0 : BitVec 32) (v468 : FVec F S128x256 .bf16) (v605 : FVec F S8x256 .f32) (v606 : Vec F S256x128 .bf16) (cst_397 : FVec F S256x256 .f32)
  (x1 : Buf (Elt F) (arg1.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg0 v468 v605 v606 cst_397 where
  inv _ _ := touched c arg1 arg6 arg7 arg8 arg9 arg10 arg11 arg12 x1
  step k _ := by
    unfold touched has
    by_cases h1 : k0_cond1 k = 1#1 <;> by_cases h2 : k0_cond2 k = 1#1
    all_goals
      iintro ⟨H1, ⟨%f7, H7⟩, ⟨%f8, H8⟩, ⟨%f9, H9⟩, ⟨%f11, H11⟩, ⟨%f6, H6⟩, ⟨%f10, H10⟩, ⟨%f12, H12⟩⟩
      sl_unfold [k0_t1_body]
      sl_exec
      sl_step
      isplitl [H1]; · iexact H1
      isplitl [H7]; · iexists _; iexact H7
      isplitl [H8]; · iexists _; iexact H8
      isplitl [H9]; · iexists _; iexact H9
      isplitl [H11]; · iexists _; iexact H11
      isplitl [H6]; · iexists _; iexact H6
      isplitl [H10]; · iexists _; iexact H10
      iexists _; iexact H12

set_option maxHeartbeats 8000000 in
/-- The body on whole buffers: the five inputs keep what they hold, the rest end at some contents. -/
theorem bodyRun (c : Dev nD) (i : grid0.Coords)
  (arg1 : Memref sig .tc .vmem S1x128x2304 .bf16) (harg1 : arg1.IsWhole)
  (arg2 : Memref sig .tc .vmem S1x96x4608 .fp8e4m3) (harg2 : arg2.IsWhole)
  (arg3 : Memref sig .tc .vmem S1x96x4608 .fp8e4m3) (harg3 : arg3.IsWhole)
  (arg4 : Memref sig .tc .vmem S1x1x4608 .f32) (harg4 : arg4.IsWhole)
  (arg5 : Memref sig .tc .vmem S1x1x4608 .f32) (harg5 : arg5.IsWhole)
  (arg6 : Memref sig .tc .vmem S1x2304x128 .f32) (harg6 : arg6.IsWhole)
  (arg7 : Memref sig .tc .vmem S4608x128 .bf16) (harg7 : arg7.IsWhole)
  (arg8 : Memref sig .tc .vmem S96x4608 .bf16) (harg8 : arg8.IsWhole)
  (arg9 : Memref sig .tc .vmem S4608x256 .f32) (harg9 : arg9.IsWhole)
  (arg10 : Memref sig .tc .vmem S4608x256 .f32) (harg10 : arg10.IsWhole)
  (arg11 : Memref sig .tc .vmem S8x256 .f32) (harg11 : arg11.IsWhole)
  (arg12 : Memref sig .tc .vmem S8x256 .f32) (harg12 : arg12.IsWhole)
  (x1 : Buf (Elt F) (arg1.view.loc (c : Thread nD τ))) (x2 : Buf (Elt F) (arg2.view.loc (c : Thread nD τ)))
  (x3 : Buf (Elt F) (arg3.view.loc (c : Thread nD τ))) (x4 : Buf (Elt F) (arg4.view.loc (c : Thread nD τ)))
  (x5 : Buf (Elt F) (arg5.view.loc (c : Thread nD τ))) :
    iprop(has c arg1 x1 ∗ has c arg2 x2 ∗ has c arg3 x3 ∗ has c arg4 x4 ∗ has c arg5 x5
        ∗ (∃ f, has c arg6 f) ∗ (∃ f, has c arg7 f) ∗ (∃ f, has c arg8 f) ∗ (∃ f, has c arg9 f) ∗ (∃ f, has c arg10 f)
        ∗ (∃ f, has c arg11 f) ∗ (∃ f, has c arg12 f))
      ⊢ wp frame (wpE (defs₀ (F := F)) Variants.none c none) Set.univ
          (cc0_prefix i arg1 harg1 arg2 harg2 arg3 harg3 arg4 harg4 arg5 harg5 arg6 harg6 arg7 harg7 arg8 harg8 arg9 harg9 arg10 harg10 arg11 harg11 arg12 harg12)
          (fun _ => iprop(has c arg1 x1 ∗ has c arg2 x2 ∗ has c arg3 x3 ∗ has c arg4 x4 ∗ has c arg5 x5
        ∗ (∃ f, has c arg6 f) ∗ (∃ f, has c arg7 f) ∗ (∃ f, has c arg8 f) ∗ (∃ f, has c arg9 f) ∗ (∃ f, has c arg10 f)
        ∗ (∃ f, has c arg11 f) ∗ (∃ f, has c arg12 f))) := by
  unfold has
  simp only [cc0_prefix_eq_skeleton]; unfold cc0_prefix_skel
  iintro ⟨H1, H2, H3, H4, H5, ⟨%f6, H6⟩, ⟨%f7, H7⟩, ⟨%f8, H8⟩, ⟨%f9, H9⟩, ⟨%f10, H10⟩, ⟨%f11, H11⟩, ⟨%f12, H12⟩⟩
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

end Cert.KernelIdeal.Gen

end
-- ==== Proof.Prefix.FrameIdeal.lean ====
/- The frame of `KernelIdeal`: every execution terminates without fault, the argument arrays end unchanged and every
   semaphore counter ends at zero. The four windows over the codes and scales overhang their arrays, so their staging
   buffers are spoken of on the part inside the arrays only; what the body leaves in the result's staging buffer is not
   named here. -/
module

public import proofs.«01_k».proof.Proof.Prefix.BodyIdeal

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The launch -/

variable (m : (ℓ : Loc nD τ sig) → Buf (Elt F) ℓ) (ρ : Dev nD → PrngReg)

/-- The result's window is forgotten. -/
def forgets : Fin 6 → Bool := fun w => w.val == 5

/-- The proof data: the arrays as the region finds them; after the body each input's buffer at its block, filled out
    past the array's end with a word nothing reads. -/
def pdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (grid0.coords t) (fun _ => Scalar.ofBits .fp8e4m3 0#8) (iblk m c 1 t)
    | ⟨2, _⟩ => (cfg0.win 2).fill (grid0.coords t) (fun _ => Scalar.ofBits .fp8e4m3 0#8) (iblk m c 2 t)
    | ⟨3, _⟩ => (cfg0.win 3).fill (grid0.coords t) (fun _ => Scalar.ofBits .f32 0#32) (iblk m c 3 t)
    | ⟨4, _⟩ => (cfg0.win 4).fill (grid0.coords t) (fun _ => Scalar.ofBits .f32 0#32) (iblk m c 4 t)
    | ⟨5, h⟩ => fun _ => Scalar.ofBits .f32 0#32
  Φ _ := Pipeline.ΦA spec0 c
  q _ := fullShare
  owed _ := 0

theorem pA_eq (c : Dev nD) (w : Fin cfg0.W) : (pdats m 0 c).A w = V m c (Pipeline.arrRef spec0 w) := by dsimp only [pdats]
theorem pafter0 (c : Dev nD) (t : Fin cfg0.N) : (pdats m 0 c).after 0 t = iblk m c 0 t := by dsimp only [pdats]
theorem pbefore0 (c : Dev nD) (t : Fin cfg0.N) (d) : (pdats m 0 c).before 0 t d = iblk m c 0 t :=
  before0_0_of m (pdats m 0 c) (pA_eq m c 0) (pafter0 m c) t d
/-- Window 1 is fetched at every point: its buffer holds the block on the part inside the array. -/
theorem pbefore1 (c : Dev nD) (t : Fin cfg0.N) (d) :
    (pdats m 0 c).before 1 t d = (cfg0.win 1).fill (grid0.coords t) d (iblk m c 1 t) := by
  unfold Dat.before; rw [if_pos (fetch0_1 t)]; rfl
theorem pcut1 (c : Dev nD) (t : Fin cfg0.N) :
    (cfg0.win 1).cut (grid0.coords t) ((pdats m 0 c).after 1 t) = iblk m c 1 t := (cfg0.win 1).cut_fill _ _ _
/-- Window 2 is fetched at every point: its buffer holds the block on the part inside the array. -/
theorem pbefore2 (c : Dev nD) (t : Fin cfg0.N) (d) :
    (pdats m 0 c).before 2 t d = (cfg0.win 2).fill (grid0.coords t) d (iblk m c 2 t) := by
  unfold Dat.before; rw [if_pos (fetch0_2 t)]; rfl
theorem pcut2 (c : Dev nD) (t : Fin cfg0.N) :
    (cfg0.win 2).cut (grid0.coords t) ((pdats m 0 c).after 2 t) = iblk m c 2 t := (cfg0.win 2).cut_fill _ _ _
/-- Window 3 is fetched at every point: its buffer holds the block on the part inside the array. -/
theorem pbefore3 (c : Dev nD) (t : Fin cfg0.N) (d) :
    (pdats m 0 c).before 3 t d = (cfg0.win 3).fill (grid0.coords t) d (iblk m c 3 t) := by
  unfold Dat.before; rw [if_pos (fetch0_3 t)]; rfl
theorem pcut3 (c : Dev nD) (t : Fin cfg0.N) :
    (cfg0.win 3).cut (grid0.coords t) ((pdats m 0 c).after 3 t) = iblk m c 3 t := (cfg0.win 3).cut_fill _ _ _
/-- Window 4 is fetched at every point: its buffer holds the block on the part inside the array. -/
theorem pbefore4 (c : Dev nD) (t : Fin cfg0.N) (d) :
    (pdats m 0 c).before 4 t d = (cfg0.win 4).fill (grid0.coords t) d (iblk m c 4 t) := by
  unfold Dat.before; rw [if_pos (fetch0_4 t)]; rfl
theorem pcut4 (c : Dev nD) (t : Fin cfg0.N) :
    (cfg0.win 4).cut (grid0.coords t) ((pdats m 0 c).after 4 t) = iblk m c 4 t := (cfg0.win 4).cut_fill _ _ _

/-- The body table's row at point `t`'s slots is the body as `bodyAt0` spells it. -/
theorem prow (t : Fin cfg0.N) :
    defs₀ (F := F) .tc cfg0.body (cfg0.bodyArgs t (cfg0.slots t)) = bodyAt0 t := by
  unfold defs₀; rw [Defs.onTc_tc]

/-- What the body is called with at point `t`, -/
def pPre (c : Dev nD) (t : Fin cfg0.N) : sProp 𝕄 :=
  iprop((pdats m 0 c).Φ t.castSucc ∗ (pdats m 0 c).owesAt () t.castSucc
    ∗ (∃ d, owns (c : Thread nD τ) (st0_0 t) fullShare ((pdats m 0 c).before 0 t d))
    ∗ (∃ d, owns (c : Thread nD τ) (st0_1 t) fullShare ((pdats m 0 c).before 1 t d))
    ∗ (∃ d, owns (c : Thread nD τ) (st0_2 t) fullShare ((pdats m 0 c).before 2 t d))
    ∗ (∃ d, owns (c : Thread nD τ) (st0_3 t) fullShare ((pdats m 0 c).before 3 t d))
    ∗ (∃ d, owns (c : Thread nD τ) (st0_4 t) fullShare ((pdats m 0 c).before 4 t d))
    ∗ (∃ X, owns (c : Thread nD τ) (st0_5 t) fullShare X))

/-- and what it returns. -/
def pPost (c : Dev nD) (t : Fin cfg0.N) : sProp 𝕄 :=
  iprop((pdats m 0 c).Φ t.succ ∗ (pdats m 0 c).owesAt () t.succ
    ∗ owns (c : Thread nD τ) (st0_0 t) fullShare ((pdats m 0 c).after 0 t)
    ∗ (∃ d, owns (c : Thread nD τ) (st0_1 t) fullShare ((cfg0.win 1).fill (grid0.coords t) d ((cfg0.win 1).cut (grid0.coords t) ((pdats m 0 c).after 1 t))))
    ∗ (∃ d, owns (c : Thread nD τ) (st0_2 t) fullShare ((cfg0.win 2).fill (grid0.coords t) d ((cfg0.win 2).cut (grid0.coords t) ((pdats m 0 c).after 2 t))))
    ∗ (∃ d, owns (c : Thread nD τ) (st0_3 t) fullShare ((cfg0.win 3).fill (grid0.coords t) d ((cfg0.win 3).cut (grid0.coords t) ((pdats m 0 c).after 3 t))))
    ∗ (∃ d, owns (c : Thread nD τ) (st0_4 t) fullShare ((cfg0.win 4).fill (grid0.coords t) d ((cfg0.win 4).cut (grid0.coords t) ((pdats m 0 c).after 4 t))))
    ∗ (∃ X, owns (c : Thread nD τ) (st0_5 t) fullShare X))

set_option maxHeartbeats 4000000 in
/-- The body at any point: by `bodyRun`, every input handed back as found. -/
theorem psound (c : Dev nD) (t : Fin cfg0.N) :
    pPre m c t ⊢ wp frame (wpE (defs₀ (F := F)) Variants.none c none) Set.univ (bodyAt0 t) (fun _ => pPost m c t) := by
  unfold pPre pPost bodyAt0
  rw [pcut1, pcut2, pcut3, pcut4]
  simp only [pbefore0, pbefore1, pbefore2, pbefore3, pbefore4]
  rw [show (pdats m 0 c).Φ t.succ = Pipeline.ΦA spec0 c from rfl, show (pdats m 0 c).Φ t.castSucc = Pipeline.ΦA spec0 c from rfl,
    show (pdats m 0 c).owesAt () t.succ = (pdats m 0 c).owesAt () t.castSucc from rfl, pafter0]
  unfold Pipeline.ΦA
  rw [scopedRest0_eq]
  unfold owns
  iintro ⟨⟨⟨⟨%g7, S7⟩, ⟨%g8, S8⟩, ⟨%g9, S9⟩, ⟨%g10, S10⟩, ⟨%g11, S11⟩, ⟨%g12, S12⟩⟩, Hr⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  iapply (wp_wand_r Idealize.ShloMosaic.frame (wpE (defs₀ (F := F)) Variants.none (c : Thread nD τ) none) Set.univ)
  isplitl [S7 S8 S9 S10 S11 S12 H0 H1 H2 H3 H4 H5]
  · iapply (bodyRun c (grid0.coords t) _ _ _ _ _ _ _ _ _ _ _ _ _ _ _ _ _ _ _ _ _ _ _ _ f0 f1 f2 f3 f4)
    unfold has
    isplitl [H0]; · iexact H0
    isplitl [H1]; · iexact H1
    isplitl [H2]; · iexact H2
    isplitl [H3]; · iexact H3
    isplitl [H4]; · iexact H4
    isplitl [H5]; · iexists f5; iexact H5
    isplitl [S7]; · iexists g7; simp only [Memref.view_whole, View.set_whole]; iexact S7
    isplitl [S8]; · iexists g8; simp only [Memref.view_whole, View.set_whole]; iexact S8
    isplitl [S9]; · iexists g9; simp only [Memref.view_whole, View.set_whole]; iexact S9
    isplitl [S10]; · iexists g10; simp only [Memref.view_whole, View.set_whole]; iexact S10
    isplitl [S11]; · iexists g11; simp only [Memref.view_whole, View.set_whole]; iexact S11
    iexists g12; simp only [Memref.view_whole, View.set_whole]; iexact S12
  · unfold has
    simp only [Memref.view_whole, View.set_whole]
    iintro %_ ⟨H0, H1, H2, H3, H4, ⟨%k5, H5⟩, S7, S8, S9, S10, S11, S12⟩
    isplitl [S7 S8 S9 S10 S11 S12 Hr]
    · isplitr [Hr]
      · isplitl [S7]; · iexact S7
        isplitl [S8]; · iexact S8
        isplitl [S9]; · iexact S9
        isplitl [S10]; · iexact S10
        isplitl [S11]; · iexact S11
        iexact S12
      · iexact Hr
    isplitl [Ho]; · iexact Ho
    isplitl [H0]
    · iexists f0; isplitr; · ipureintro; exact e0
      iexact H0
    isplitl [H1]
    · iexists d1; iexists f1; isplitr; · ipureintro; exact e1
      iexact H1
    isplitl [H2]
    · iexists d2; iexists f2; isplitr; · ipureintro; exact e2
      iexact H2
    isplitl [H3]
    · iexists d3; iexists f3; isplitr; · ipureintro; exact e3
      iexact H3
    isplitl [H4]
    · iexists d4; iexists f4; isplitr; · ipureintro; exact e4
      iexact H4
    iexists _; iexists k5; isplitr; · ipureintro; rfl
    iexact H5

/-- The library's body obligation. -/
theorem pobligation (c : Dev nD) : BodyObligationLoose (pdats (F := F) m 0 c) (defs₀ (F := F)) Variants.none () Set.univ forgets := fun t => by
  rw [bigSep_W0, bigSep_W0, prow]
  exact triple_restated (psound m c t) rfl .rfl fun _ => .rfl

set_option backward.isDefEq.respectTransparency.types false in
set_option maxHeartbeats 800000 in
/-- Every execution of @main terminates; the buffers no window stages are as the region found them; counters at zero. -/
theorem prun : θ_run defs (onTc (τ := τ) (main (F := F))) (s₀ m ρ)
    (fun r => Pipeline.RDat.FramePost (cfgs 0) (fun c => (pdats m 0 c).toRForget forgets) (V m) r ∧ r.2.sem = fun _ => 0) :=
  Pipeline.θ_run_frame_forget (Q' := _) cfgs (pdats m) (0 : Fin 1) launch0 defs₀ Variants.none forgets m ρ main
    (hbody := pobligation m) (hshare := fun c => (pdats m 0 c).share_full fun _ => rfl)
    (howed := fun _ _ => rfl) (V := V m) (hmain := hmain m Variants.none) (hA := pA_eq m) (hΦ := fun _ _ => rfl)

/-- The frame: the argument arrays end unchanged and every counter at zero. -/
theorem pframe : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, hz⟩ => ⟨fun c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩, hz⟩) (prun m ρ)

end Cert.KernelIdeal.Gen

end
-- ==== Proof.lean ====
module

public import proofs.«01_k».proof.Proof.Prefix.KernelArr
public import proofs.«01_k».proof.Proof.Prefix.RefVal
public import proofs.«01_k».proof.Proof.Prefix.Scales
public import proofs.«01_k».proof.Defs
public import proofs.«01_k».proof.Proof.Prefix.FrameBits
public import proofs.«01_k».proof.Proof.Prefix.FrameIdeal
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize Idealize.ShloMosaic Idealize.ShloMosaic.Pointwise Idealize.SL.Sem

/-- Each literal the idealization names denotes its table's real. -/
theorem preserves : Cert.preserves_Kernel_KernelIdeal :=
  ⟨IdealRules.named_const.statement Cert.KernelIdeal.κ "masked" .f32 0xF149F2CA#32 ⊥ rfl,
   IdealRules.named_const.statement Cert.KernelIdeal.κ "c_log2" .f32 0x3E16C740#32 _ rfl,
   IdealRules.named_const.statement Cert.KernelIdeal.κ "score_scale" .f32 0x3DD105EC#32 _ rfl⟩

/-- The idealization ends with its result array at what its blocks make of it, and its arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v13) = (Cert.KernelIdeal.Gen.vdats m 0 c).arrAt 5 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  (θ_run _ _ _).mono (fun r h c => ⟨(h c).1 5,
      ((h c).2 Cert.KernelIdeal.main_arg0 (Pipeline.mem_restRefs_of Cert.KernelIdeal.main_arg0 (by decide) (by decide))).trans (Cert.KernelIdeal.Gen.V_main_arg0 m c),
      ((h c).2 Cert.KernelIdeal.main_arg1 (Pipeline.mem_restRefs_of Cert.KernelIdeal.main_arg1 (by decide) (by decide))).trans (Cert.KernelIdeal.Gen.V_main_arg1 m c),
      ((h c).2 Cert.KernelIdeal.main_arg2 (Pipeline.mem_restRefs_of Cert.KernelIdeal.main_arg2 (by decide) (by decide))).trans (Cert.KernelIdeal.Gen.V_main_arg2 m c),
      ((h c).2 Cert.KernelIdeal.main_arg3 (Pipeline.mem_restRefs_of Cert.KernelIdeal.main_arg3 (by decide) (by decide))).trans (Cert.KernelIdeal.Gen.V_main_arg3 m c),
      ((h c).2 Cert.KernelIdeal.main_arg4 (Pipeline.mem_restRefs_of Cert.KernelIdeal.main_arg4 (by decide) (by decide))).trans (Cert.KernelIdeal.Gen.V_main_arg4 m c)⟩)
    (Cert.KernelIdeal.Gen.vrun m ρ)

/-- At equal arguments the two result arrays agree, index by index. -/
theorem agree [Cert.Pre_scales_nonnegative.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_scales_nonnegative m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    ((Cert.ReferenceIdeal.Gen.dats m' 0 c).arrAt 5 Cert.ReferenceIdeal.cfg0.N : Cert.ReferenceIdeal.S8x2304x128.Idx → EReal)
      = ((Cert.KernelIdeal.Gen.vdats m 0 c).arrAt 5 Cert.KernelIdeal.cfg0.N : Cert.KernelIdeal.S8x2304x128.Idx → EReal) := by
  funext y
  have hy : y = ix3 (y 0) (y 1) (y 2) := by funext a; fin_cases a <;> rfl
  have s := fun k => Cert.Pre_scales_nonnegative.scales _ _ _ _ _ (hpre c) (ix2 k (y 0))
  rw [hy]
  have ek := Cert.KernelIdeal.Gen.kvalue m c (y 0) (y 1) (y 2) (fun k => (s k).1) (fun k => (s k).2)
  have er := Cert.ReferenceIdeal.Gen.rvalue m' c (y 0) (y 1) (y 2)
  rw [h0, h1, h2, h3, h4] at er
  exact er.trans ek.symm

theorem claim : Cert.Claim :=
  ⟨Cert.Kernel.Gen.facts, Cert.KernelIdeal.Gen.facts, Cert.ReferenceIdeal.Gen.facts, Cert.Pre_scales_nonnegative.facts,
   fun m ρ _ => Cert.Kernel.Gen.pframe m ρ, fun m ρ _ => Cert.KernelIdeal.Gen.pframe m ρ, fun m ρ _ => Cert.KernelIdeal.Gen.pframe m ρ,
   fun m ρ _ => Cert.ReferenceIdeal.Gen.frame m ρ, fun m ρ _ => Cert.ReferenceIdeal.Gen.frame m ρ, preserves,
   fun m ρ m' ρ' hpre hargs => ⟨fun c => (Cert.KernelIdeal.Gen.vdats m 0 c).arrAt 5 Cert.KernelIdeal.cfg0.N, kernel_run m ρ,
     (θ_run _ _ _).mono (fun r h c => by
       haveI := Cert.Pre_scales_nonnegative.facts
       obtain ⟨hv, hk⟩ := h c
       obtain ⟨a0, a1, a2, a3, a4⟩ := hargs c
       exact ⟨hv.trans (agree m m' hpre c a0 a1 a2 a3 a4), hk⟩)
       (Cert.ReferenceIdeal.Value.run_blocks m' ρ')⟩⟩

end Cert.Proof

end
